-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1x8192x1024 : Shape := ⟨3, ![1, 8192, 1024]⟩
abbrev S2048x4096 : Shape := ⟨2, ![2048, 4096]⟩
abbrev S8192x1024 : Shape := ⟨2, ![8192, 1024]⟩
abbrev S2048x1024 : Shape := ⟨2, ![2048, 1024]⟩
abbrev S4x256x1024 : Shape := ⟨3, ![4, 256, 1024]⟩
abbrev S_ : Shape := ⟨0, ![]⟩
abbrev S4 : Shape := ⟨1, ![4]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1x8192x1024, .f32⟩
  | .hbm, ⟨2, _⟩ => ⟨S2048x4096, .f32⟩
  | .hbm, ⟨3, _⟩ => ⟨S8192x1024, .f32⟩
  | .hbm, ⟨4, _⟩ => ⟨S8192x1024, .f32⟩
  | .hbm, ⟨5, _⟩ => ⟨S4x2048x1024, .f32⟩
  | .local _ .vmem, ⟨0, _⟩ => ⟨S2048x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none
-- ==== ReferenceIdeal.lean ====
abbrev S4x2048x1024 : Shape := ⟨3, ![4, 2048, 1024]⟩
abbrev S1x8192x1024 : Shape := ⟨3, ![1, 8192, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x8192x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S1, .i32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S1x1, .i32⟩
  | .hbm, ⟨22, _⟩ => ⟨S2048x1, .i32⟩
  | .hbm, ⟨23, _⟩ => ⟨S2048x1, .i1⟩
  | .hbm, ⟨24, _⟩ => ⟨S2048x1, .i1⟩
  | .hbm, ⟨25, _⟩ => ⟨S_, .i1⟩
  | .hbm, ⟨26, _⟩ => ⟨S2048, .i1⟩
  | .hbm, ⟨27, _⟩ => ⟨S1x2048x1024, .f32⟩
  | .hbm, ⟨28, _⟩ => ⟨S1x2048x1024, .i1⟩
  | .hbm, ⟨29, _⟩ => ⟨S_, .f32⟩
  | .hbm, ⟨30, _⟩ => ⟨S1x2048x1024, .f32⟩
  | .hbm, ⟨31, _⟩ => ⟨S1x2048x1024, .f32⟩
  | .hbm, ⟨32, _⟩ => ⟨S4x2048x1024, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩

abbrev nD : Nat := 1
abbrev τ : Topo := Topo.v7x

variable {F : FTy → Type} [FloatOps F]
-- ==== Proof.KernelIdeal.Schedule.lean ====
module

public import proofs.«01_k».proof.Proof.Gen.KernelIdeal.Frame
public import proofs.«01_k».proof.Proof.Gen.KernelIdeal.Skeleton
public import Idealize.ShloMosaic.Lib.Tactic

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Slot `s` of a ring lies inside it. -/
theorem slot_inb {s : ℕ} (hs : s < 4) (a : Fin 3) : (![s, 0, 0] : Fin 3 → ℕ) a + S1x256x1024.size a ≤ S4x256x1024.size a := by
  fin_cases a <;> simp; omega

/-- Row block `k` of an 8192-row array lies inside it. -/
theorem block_inb {k : ℕ} (hk : k < 32) (a : Fin 2) : (![256 * k, 0] : Fin 2 → ℕ) a + S256x1024.size a ≤ S8192x1024.size a := by
  fin_cases a <;> simp; omega

/-- Row block `j` of the 2048-row table lies inside it. -/
theorem table_inb {j : ℕ} (hj : j < 8) (a : Fin 2) : (![256 * j, 0] : Fin 2 → ℕ) a + S256x1024.size a ≤ S2048x1024.size a := by
  fin_cases a <;> simp; omega

/-- Cell `s` of a four-cell semaphore array lies inside it. -/
theorem cell_inb {s : ℕ} (hs : s < 4) (a : Fin 1) : (![s] : Fin 1 → ℕ) a + S1.size a ≤ S4.size a := by
  fin_cases a; simp; omega

/-- The rectangle of slot `s` in a ring. -/
abbrev slotRect (s : ℕ) (hs : s < 4) : Rect S4x256x1024 := Rect.unit (s := S4x256x1024) ![s, 0, 0] S1x256x1024.size (slot_inb hs)
/-- The rectangle of row block `k` in an 8192-row array. -/
abbrev blockRect (k : ℕ) (hk : k < 32) : Rect S8192x1024 := Rect.unit (s := S8192x1024) ![256 * k, 0] S256x1024.size (block_inb hk)
/-- The rectangle of row block `j` in the table. -/
abbrev tableRect (j : ℕ) (hj : j < 8) : Rect S2048x1024 := Rect.unit (s := S2048x1024) ![256 * j, 0] S256x1024.size (table_inb hj)

/-- Slot `s` of the ring `X`, as a matrix. -/
abbrev slot (X : Memref sig .tc .vmem S4x256x1024 .f32) (s : ℕ) (hs : s < 4) : Memref sig .tc .vmem S256x1024 .f32 :=
  (X.slice (slotRect s hs) (fun _ => rfl)).squeeze S256x1024 squeezes_S1x256x1024_S256x1024
/-- Row block `k` of the array `A`. -/
abbrev block (A : Memref sig .tc .hbm S8192x1024 .f32) (k : ℕ) (hk : k < 32) : Memref sig .tc .hbm S256x1024 .f32 :=
  A.slice (blockRect k hk) (fun _ => rfl)
/-- Cell `s` of the semaphore array `D`. -/
abbrev cell (D : DmaSems sig S4) (s : ℕ) (hs : s < 4) : DmaSem sig :=
  ((D.slice (Rect.unit (s := S4) ![s] S1.size (cell_inb hs))).squeeze S_ squeezes_S1_S_).sem

/-- What is stored for a chunk: the chunk plus its rows of the table, as a slot. -/
abbrev summed (x : Vec F S1x256x1024 .f32) (p : Vec F S256x1024 .f32) : FVec F S1x256x1024 .f32 := k0_pay1 x p

/-- Programs of the core. -/
abbrev Pr (F : FTy → Type) [FloatOps F] := Prog (TpuEff nD τ sig (Elt F) Λ₀ .tc) PUnit

/-- Start the copy of row block `k` of `A` into slot `s` of `X`. -/
abbrev startIn (A : Memref sig .tc .hbm S8192x1024 .f32) (X : Memref sig .tc .vmem S4x256x1024 .f32) (D : DmaSems sig S4)
    (k : ℕ) (hk : k < 32) (s : ℕ) (hs : s < 4) : Pr F :=
  Prog.lift (.enqueueDma (block A k hk) (.here (slot X s hs)) (.dma (cell D s hs)) (View.wordExact_bits rfl) ((View.wordExact_bits rfl).reshape _ _) ⟨Or.inl rfl, trivial⟩)
/-- Wait for the copy of row block `k` of `A` into slot `s` of `X`. -/
abbrev waitIn (A : Memref sig .tc .hbm S8192x1024 .f32) (X : Memref sig .tc .vmem S4x256x1024 .f32) (D : DmaSems sig S4)
    (k : ℕ) (hk : k < 32) (s : ℕ) (hs : s < 4) : Pr F :=
  Prog.lift (.waitDma2 (cell D s hs) (block A k hk) (slot X s hs) (View.wordExact_bits rfl) ((View.wordExact_bits rfl).reshape _ _))
/-- Start the copy of slot `s` of `O` into row block `k` of `Y`. -/
abbrev startOut (Y : Memref sig .tc .hbm S8192x1024 .f32) (O : Memref sig .tc .vmem S4x256x1024 .f32) (D : DmaSems sig S4)
    (k : ℕ) (hk : k < 32) (s : ℕ) (hs : s < 4) : Pr F :=
  Prog.lift (.enqueueDma (slot O s hs) (.here (block Y k hk)) (.dma (cell D s hs)) ((View.wordExact_bits rfl).reshape _ _) (View.wordExact_bits rfl) ⟨Or.inl rfl, trivial⟩)
/-- Wait for the copy of slot `s` of `O` into row block `k` of `Y`. -/
abbrev waitOut (Y : Memref sig .tc .hbm S8192x1024 .f32) (O : Memref sig .tc .vmem S4x256x1024 .f32) (D : DmaSems sig S4)
    (k : ℕ) (hk : k < 32) (s : ℕ) (hs : s < 4) : Pr F :=
  Prog.lift (.waitDma2 (cell D s hs) (slot O s hs) (block Y k hk) ((View.wordExact_bits rfl).reshape _ _) (View.wordExact_bits rfl))

/-- Read slot `s` of `X` and row block `j` of the table `T`, and store their sum in slot `s` of `O`. -/
abbrev addStore (T : Memref sig .tc .vmem S2048x1024 .f32) (X O : Memref sig .tc .vmem S4x256x1024 .f32)
    (j : ℕ) (hj : j < 8) (s : ℕ) (hs : s < 4) : Pr F := do
  let x : Vec F S1x256x1024 .f32 ← Prog.lift (.load X (slotRect s hs).toLoadRect (View.loadsAt_vmem h_S1x256x1024))
  let p : Vec F S256x1024 .f32 ← Prog.lift (.load T (tableRect j hj).toLoadRect (View.loadsAt_vmem h_S256x1024))
  let _o : Vec F S1x256x1024 .f32 ← Prog.lift (.load O (slotRect s hs).toLoadRect (View.loadsAt_vmem h_S1x256x1024))
  Prog.lift (.store O (slotRect s hs) (summed x p) Finset.univ (View.stores_vmem_bits_univ h_S1x256x1024 rfl) (.inl rfl))

/-- The chunk of round `q` in slot `s` of bank `b` is row block `8q + 2s + b`. -/
theorem chunk_lt {q s b : ℕ} (hq : q < 4) (hs : s < 4) (hb : b < 2) : 8 * q + 2 * s + b < 32 := by omega
/-- It takes block `2s + b` of the table. -/
theorem tab_lt {s b : ℕ} (hs : s < 4) (hb : b < 2) : 2 * s + b < 8 := by omega

section
variable (A Y : Memref sig .tc .hbm S8192x1024 .f32) (T : Memref sig .tc .vmem S2048x1024 .f32)
  (X O : Memref sig .tc .vmem S4x256x1024 .f32) (Di Do : DmaSems sig S4) (b : ℕ) (hb : b < 2) (s : ℕ) (hs : s < 4)

/-- A chunk of the first round: nothing is being copied out of the slot yet. -/
def chunkFirst : Pr F := do
  waitIn A X Di (8 * 0 + 2 * s + b) (chunk_lt (by omega) hs hb) s hs
  addStore T X O (2 * s + b) (tab_lt hs hb) s hs
  startOut Y O Do (8 * 0 + 2 * s + b) (chunk_lt (by omega) hs hb) s hs
  startIn A X Di (8 * 1 + 2 * s + b) (chunk_lt (by omega) hs hb) s hs

/-- A chunk of a middle round `q + 1`. -/
def chunkMid (q : ℕ) (hq : q + 2 < 4) : Pr F := do
  waitIn A X Di (8 * (q + 1) + 2 * s + b) (chunk_lt (by omega) hs hb) s hs
  waitOut Y O Do (8 * q + 2 * s + b) (chunk_lt (by omega) hs hb) s hs
  addStore T X O (2 * s + b) (tab_lt hs hb) s hs
  startOut Y O Do (8 * (q + 1) + 2 * s + b) (chunk_lt (by omega) hs hb) s hs
  startIn A X Di (8 * (q + 2) + 2 * s + b) (chunk_lt (by omega) hs hb) s hs

/-- A chunk of the last round: nothing more is copied in. -/
def chunkLast : Pr F := do
  waitIn A X Di (8 * 3 + 2 * s + b) (chunk_lt (by omega) hs hb) s hs
  waitOut Y O Do (8 * 2 + 2 * s + b) (chunk_lt (by omega) hs hb) s hs
  addStore T X O (2 * s + b) (tab_lt hs hb) s hs
  startOut Y O Do (8 * 3 + 2 * s + b) (chunk_lt (by omega) hs hb) s hs

end

/-- One pass over the eight lanes, in the order the kernel takes them. -/
abbrev lanes (f : (b : ℕ) → b < 2 → (s : ℕ) → s < 4 → Pr F) : Pr F := do
  f 0 (by omega) 0 (by omega)
  f 1 (by omega) 0 (by omega)
  f 0 (by omega) 1 (by omega)
  f 1 (by omega) 1 (by omega)
  f 0 (by omega) 2 (by omega)
  f 1 (by omega) 2 (by omega)
  f 0 (by omega) 3 (by omega)
  f 1 (by omega) 3 (by omega)

/-- The two banks' choice. -/
abbrev bank {α : Type} (x y : α) (b : ℕ) : α := if b = 0 then x else y

/-- The kernel's schedule. -/
def schedule (arg0 : Memref sig .tc .hbm S8192x1024 .f32) (arg1 : Memref sig .tc .hbm S8192x1024 .f32) (arg2 : Memref sig .tc .hbm S2048x4096 .f32)
    (arg3 : Memref sig .tc .hbm S8192x1024 .f32) (arg4 : Memref sig .tc .vmem S2048x1024 .f32) (harg4 : arg4.IsWhole)
    (arg5 arg6 arg7 arg8 : Memref sig .tc .vmem S4x256x1024 .f32)
    (arg9 : DmaSems sig S_) (arg10 arg11 arg12 arg13 : DmaSems sig S4) : Pr F := do
  Prog.lift (.enqueueDma (arg2.slice (Rect.unit (s := S2048x4096) ![0, 0] S2048x1024.size inb_S2048x4096_S2048x1024_0_0) (fun _ => rfl)) (.here arg4) (.dma arg9.sem) (View.wordExact_bits rfl) harg4.wordExact ⟨Or.inl rfl, trivial⟩)
  lanes fun b hb s hs => startIn (bank arg0 arg1 b) (bank arg5 arg6 b) (bank arg10 arg11 b) (8 * 0 + 2 * s + b) (chunk_lt (by omega) hs hb) s hs
  Prog.lift (.waitDma2 arg9.sem (arg2.slice (Rect.unit (s := S2048x4096) ![0, 0] S2048x1024.size inb_S2048x4096_S2048x1024_0_0) (fun _ => rfl)) arg4 (View.wordExact_bits rfl) harg4.wordExact)
  lanes fun b hb s hs => chunkFirst (bank arg0 arg1 b) arg3 arg4 (bank arg5 arg6 b) (bank arg7 arg8 b) (bank arg10 arg11 b) (bank arg12 arg13 b) b hb s hs
  lanes fun b hb s hs => chunkMid (bank arg0 arg1 b) arg3 arg4 (bank arg5 arg6 b) (bank arg7 arg8 b) (bank arg10 arg11 b) (bank arg12 arg13 b) b hb s hs 0 (by omega)
  lanes fun b hb s hs => chunkMid (bank arg0 arg1 b) arg3 arg4 (bank arg5 arg6 b) (bank arg7 arg8 b) (bank arg10 arg11 b) (bank arg12 arg13 b) b hb s hs 1 (by omega)
  lanes fun b hb s hs => chunkLast (bank arg0 arg1 b) arg3 arg4 (bank arg5 arg6 b) (bank arg7 arg8 b) (bank arg10 arg11 b) (bank arg12 arg13 b) b hb s hs
  lanes fun b hb s hs => waitOut arg3 (bank arg7 arg8 b) (bank arg12 arg13 b) (8 * 3 + 2 * s + b) (chunk_lt (by omega) hs hb) s hs

/-- The printed body is the schedule. -/
theorem body_eq (arg0 : Memref sig .tc .hbm S8192x1024 .f32) (harg0 : arg0.IsWhole) (arg1 : Memref sig .tc .hbm S8192x1024 .f32) (harg1 : arg1.IsWhole)
    (arg2 : Memref sig .tc .hbm S2048x4096 .f32) (harg2 : arg2.IsWhole)
    (arg3 : Memref sig .tc .hbm S8192x1024 .f32) (harg3 : arg3.IsWhole) (arg4 : Memref sig .tc .vmem S2048x1024 .f32) (harg4 : arg4.IsWhole)
    (arg5 : Memref sig .tc .vmem S4x256x1024 .f32) (harg5 : arg5.IsWhole) (arg6 : Memref sig .tc .vmem S4x256x1024 .f32) (harg6 : arg6.IsWhole)
    (arg7 : Memref sig .tc .vmem S4x256x1024 .f32) (harg7 : arg7.IsWhole) (arg8 : Memref sig .tc .vmem S4x256x1024 .f32) (harg8 : arg8.IsWhole)
    (arg9 : DmaSems sig S_) (arg10 arg11 arg12 arg13 : DmaSems sig S4) :
    cc0_body (F := F) arg0 harg0 arg1 harg1 arg2 harg2 arg3 harg3 arg4 harg4 arg5 harg5 arg6 harg6 arg7 harg7 arg8 harg8 arg9 arg10 arg11 arg12 arg13
      = schedule arg0 arg1 arg2 arg3 arg4 harg4 arg5 arg6 arg7 arg8 arg9 arg10 arg11 arg12 arg13 := by
  sl_kernel_rfl

end Cert.KernelIdeal.Hand
-- ==== Proof.KernelIdeal.Steps.lean ====
module

public import proofs.«01_k».proof.Proof.KernelIdeal.Schedule
public import proofs.«01_k».proof.Proof.Gen.KernelIdeal.Launch
public import Idealize.ShloMosaic.Lib.Transfers
public import Idealize.ShloMosaic.Lib.Memref
public import Idealize.ShloMosaic.Lib.Pipeline.FrameSuffixV

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resources of the proof. -/
local notation "𝕄" => MT nD τ sig Unit (Elt F) ℕ (Pipeline.UD sig nD τ) ℕ

/-- The memory reference `m`, owned whole by the core of `c`, reads `X`. -/
abbrev Own (c : Dev nD) {sp : Space} {s : Shape} {e : EltTy} (m : Memref sig .tc sp s e) (X : s.Idx → Elt F e) : sProp 𝕄 :=
  owns (c : Thread nD τ) m fullShare X
/-- It is owned, and reads anything. -/
abbrev OwnAny (c : Dev nD) {sp : Space} {s : Shape} {e : EltTy} (m : Memref sig .tc sp s e) : sProp 𝕄 :=
  iprop(∃ X, Own (F := F) c m X)
/-- The semaphore cell `sm` stands at zero and nothing is in flight on it. -/
abbrev Idle (c : Dev nD) (sm : DmaSem sig) : sProp 𝕄 := semVal ((c : Thread nD τ), SemLoc.dma sm) 0
/-- A copy of `N` units is in flight on the cell `sm`; the wait for it hands over `D`. -/
abbrev Fly (c : Dev nD) (sm : DmaSem sig) (N : ℕ) (D : sProp 𝕄) : sProp 𝕄 :=
  Transfers.Flight (countersEmb (U := Pipeline.UD sig nD τ)) (c : Thread nD τ) (SemLoc.dma sm) () N D
/-- The core owes nothing, whatever it has waited for. -/
abbrev Owing (c : Dev nD) : sProp 𝕄 := iprop(∃ W, owes (c : Thread nD τ) 0 W)
/-- The program `p` of the core of `c` runs to its end, where `Q` holds. -/
abbrev Runs (c : Dev nD) (p : Pr F) (Q : PUnit → sProp 𝕄) : sProp 𝕄 :=
  wp frame (wpE defs₀ Variants.none (c : Thread nD τ) none) Set.univ p Q

/-- Starting a copy of `src` into `dst` on an idle cell puts it in flight; it will hand over `dst` reading what `src`
    reads, and `src` back. -/
theorem start {c : Dev nD} {sp sp' : Space} {s : Shape} {e : EltTy} (src : Memref sig .tc sp s e) (dst : Memref sig .tc sp' s e)
    (sm : DmaSem sig) (hsrc : src.view.WordExact) (hdst : dst.view.WordExact)
    (hsem : DmaTarget.Typed (nD := nD) (p := .tc) sp (.dma sm) (.here dst)) (hpos : 0 < dst.view.dmaCredit) (x : s.Idx → Elt F e) (Q : PUnit → sProp 𝕄) :
    iprop((Own c src x ∗ OwnAny (F := F) c dst ∗ Idle c sm) ∗ (Fly c sm dst.view.dmaCredit iprop(Own c dst x ∗ Own c src x) -∗ Q ⟨⟩))
      ⊢ Runs c (Prog.lift (.enqueueDma src (.here dst) (.dma sm) hsrc hdst hsem)) Q := by
  unfold OwnAny Own owns
  iintro ⟨⟨⟨%fs, %hfs, Hs⟩, ⟨%d, %fd, -, Hd⟩, Hv⟩, Hk⟩
  iapply (Transfers.wp_dmaLocal (countersEmb (U := Pipeline.UD sig nD τ)) Variants.none (c : Thread nD τ) none ()
    dst.view.dmaCredit rfl hpos (Finset.Subset.refl _)) $$ [Hs Hd Hv]
  · isplitl [Hs]; · iexact Hs
    isplitl [Hd]; · iexact Hd
    iexact Hv
  iintro Hf
  rw [wp_ret]
  imodintro
  iapply Hk
  iapply (Transfers.Flight_mono (countersEmb (U := Pipeline.UD sig nD τ)) (c : Thread nD τ) ?_) $$ Hf
  iintro ⟨Hd, Hs⟩
  isplitl [Hd]
  · iexists _
    isplitr
    rotate_left
    · iexact Hd
    · ipureintro
      rw [View.read_write_univ]; exact hfs
  · iexists fs
    isplitr
    · ipureintro; exact hfs
    · iexact Hs

/-- Waiting for a copy in flight hands over what it was to hand over and leaves the cell idle. -/
theorem wait {c : Dev nD} {sp sp' : Space} {s : Shape} {e : EltTy} (src : Memref sig .tc sp s e) (dst : Memref sig .tc sp' s e)
    (sm : DmaSem sig) (hsrc : src.view.WordExact) (hdst : dst.view.WordExact) (D : sProp 𝕄) (Q : PUnit → sProp 𝕄) :
    iprop((Fly c sm dst.view.dmaCredit D ∗ Owing (F := F) c) ∗ ((D ∗ Idle c sm ∗ Owing (F := F) c) -∗ Q ⟨⟩))
      ⊢ Runs c (Prog.lift (.waitDma2 sm src dst hsrc hdst)) Q := by
  iintro ⟨⟨Hf, %W, HW⟩, Hk⟩
  iapply (Transfers.wp_waitLocal (countersEmb (U := Pipeline.UD sig nD τ)) Variants.none (c : Thread nD τ) none ()
    (rfl : dst.view.dmaCredit = _)) $$ [Hf HW]
  · isplitl [Hf]; · iexact Hf
    iexact HW
  iintro ⟨HD, Hv, HW⟩
  rw [wp_ret]
  imodintro
  iapply Hk
  isplitl [HD]; · iexact HD
  isplitl [Hv]; · iexact Hv
  iexists _; iexact HW

/-- The rows of block `j` of the table `t`. -/
def tabRows (t : S2048x1024.Idx → Elt F .f32) (j : ℕ) (hj : j < 8) : S256x1024.Idx → Elt F .f32 :=
  fun i => t ((tableRect j hj).emb i)

/-- A slot as a matrix has the elements of the slot. -/
theorem slot_set (X : Memref sig .tc .vmem S4x256x1024 .f32) (s : ℕ) (hs : s < 4) :
    (slot X s hs).view.set = (X.access (slotRect s hs)).set :=
  View.set_reshape (v := X.access (slotRect s hs)) squeezes_S1x256x1024_S256x1024.numel_eq

/-- After the store, the slot reads the sum. -/
theorem slot_sum (O : Memref sig .tc .vmem S4x256x1024 .f32) (s : ℕ) (hs : s < 4) (fo : O.view.ty.Contents (Elt F))
    (x : S256x1024.Idx → Elt F .f32) (t : S2048x1024.Idx → Elt F .f32) (j : ℕ) (hj : j < 8)
    (x' : Vec F S1x256x1024 .f32) (p : Vec F S256x1024 .f32)
    (hx : (fun i => x' (Shape.reshapeEquiv squeezes_S1x256x1024_S256x1024.numel_eq i)) = x) (hp : p = tabRows t j hj) :
    (slot O s hs).view.read (Elt F) ((O.access (slotRect s hs)).write (Elt F) fo (summed x' p) Finset.univ)
      = addf (φ := .f32) x (tabRows t j hj) := by
  have h : (slot O s hs).view.read (Elt F) ((O.access (slotRect s hs)).write (Elt F) fo (summed x' p) Finset.univ)
      = fun i => (O.access (slotRect s hs)).read (Elt F) ((O.access (slotRect s hs)).write (Elt F) fo (summed x' p) Finset.univ)
          (Shape.reshapeEquiv squeezes_S1x256x1024_S256x1024.numel_eq i) := rfl
  rw [h, View.read_write_univ]
  subst hx hp
  funext i
  show addf (φ := .f32) _ _ (Shape.reshapeEquiv _ (Shape.reshapeEquiv _ i)) = _
  rw [Shape.reshapeEquiv_reshapeEquiv, Shape.reshapeEquiv_self]
  rfl

/-- Reading slot `s` of `X` and block `j` of the table and storing the sum leaves slot `s` of `O` reading the sum. -/
theorem sum_slot {c : Dev nD} (T : Memref sig .tc .vmem S2048x1024 .f32) (X O : Memref sig .tc .vmem S4x256x1024 .f32)
    (j : ℕ) (hj : j < 8) (s : ℕ) (hs : s < 4) (x : S256x1024.Idx → Elt F .f32) (t : S2048x1024.Idx → Elt F .f32) (Q : PUnit → sProp 𝕄) :
    iprop((Own c (slot X s hs) x ∗ Own c T t ∗ OwnAny (F := F) c (slot O s hs))
        ∗ ((Own c (slot X s hs) x ∗ Own c T t ∗ Own c (slot O s hs) (addf (φ := .f32) x (tabRows t j hj))) -∗ Q ⟨⟩))
      ⊢ Runs c (addStore T X O j hj s hs) Q := by
  unfold OwnAny Own owns
  iintro ⟨⟨⟨%fx, %hx, Hx⟩, ⟨%ft, %ht, Ht⟩, ⟨%d, %fo, -, Ho⟩⟩, Hk⟩
  rw [slot_set X s hs, slot_set O s hs]
  unfold Runs addStore
  simp only [Prog.bind_lift]
  iapply (wp_load_rect Variants.none (c : Thread nD τ) none Set.univ (Finset.Subset.refl _)) $$ Hx
  iintro Hx
  iapply (wp_load_rect (m := T) (r := tableRect j hj) Variants.none (c : Thread nD τ) none Set.univ (View.set_slice_subset _ _)) $$ Ht
  iintro Ht
  iapply (wp_load_rect Variants.none (c : Thread nD τ) none Set.univ (Finset.Subset.refl _)) $$ Ho
  iintro Ho
  iapply (wp_store (m := O) (r := slotRect s hs) Variants.none (c : Thread nD τ) none Set.univ (by rw [View.setOn_univ])) $$ Ho
  iintro Ho
  rw [wp_ret]
  imodintro
  iapply Hk
  isplitl [Hx]
  · iexists fx
    isplitr
    · ipureintro; exact hx
    · iexact Hx
  isplitl [Ht]
  · iexists ft
    isplitr
    · ipureintro; exact ht
    · iexact Ht
  iexists _
  isplitr
  rotate_left
  · iexact Ho
  ipureintro
  exact slot_sum O s hs fo x t j hj _ _ hx (by rw [← ht]; rfl)

end Cert.KernelIdeal.Hand
-- ==== Proof.KernelIdeal.Lane.lean ====
module

public import proofs.«01_k».proof.Proof.KernelIdeal.Steps

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resources of the proof. -/
local notation "𝕄" => MT nD τ sig Unit (Elt F) ℕ (Pipeline.UD sig nD τ) ℕ

/-- Row block `k` of the array `x`. -/
def rowsOf (x : S8192x1024.Idx → Elt F .f32) (k : ℕ) (hk : k < 32) : S256x1024.Idx → Elt F .f32 :=
  fun i => x ((blockRect k hk).emb i)

/-- A matrix of 256 rows of 1024 has elements. -/
theorem rows_pos : 0 < S256x1024.numel := by decide

section Lane

variable (c : Dev nD) (A Y : Memref sig .tc .hbm S8192x1024 .f32) (T : Memref sig .tc .vmem S2048x1024 .f32)
  (X O : Memref sig .tc .vmem S4x256x1024 .f32) (Di Do : DmaSems sig S4)
  (x : S8192x1024.Idx → Elt F .f32) (t : S2048x1024.Idx → Elt F .f32)
  (b : ℕ) (hb : b < 2) (s : ℕ) (hs : s < 4)

/-- What the lane's chunk of round `q` comes to: its rows plus the lane's rows of the table. -/
def laneSum (q : ℕ) (hq : q < 4) : S256x1024.Idx → Elt F .f32 :=
  addf (φ := .f32) (rowsOf x (8 * q + 2 * s + b) (chunk_lt hq hs hb)) (tabRows t (2 * s + b) (tab_lt hs hb))

/-- The lane's input rows of round `q`. -/
def In (q : ℕ) (hq : q < 4) : sProp 𝕄 :=
  Own c (block A (8 * q + 2 * s + b) (chunk_lt hq hs hb)) (rowsOf x (8 * q + 2 * s + b) (chunk_lt hq hs hb))
/-- The lane's result rows of round `q`, not written yet. -/
def Res (q : ℕ) (hq : q < 4) : sProp 𝕄 := OwnAny (F := F) c (block Y (8 * q + 2 * s + b) (chunk_lt hq hs hb))
/-- The lane's result rows of round `q`, holding the sum. -/
def Done (q : ℕ) (hq : q < 4) : sProp 𝕄 :=
  Own c (block Y (8 * q + 2 * s + b) (chunk_lt hq hs hb)) (laneSum x t b hb s hs q hq)
/-- The copy in of round `q` is in flight. -/
def FlyIn (q : ℕ) (hq : q < 4) : sProp 𝕄 :=
  Fly c (cell Di s hs) (slot X s hs).view.dmaCredit
    iprop(Own c (slot X s hs) (rowsOf x (8 * q + 2 * s + b) (chunk_lt hq hs hb)) ∗ In c A x b hb s hs q hq)
/-- The copy out of round `q` is in flight. -/
def FlyOut (q : ℕ) (hq : q < 4) : sProp 𝕄 :=
  Fly c (cell Do s hs) (block Y (8 * q + 2 * s + b) (chunk_lt hq hs hb)).view.dmaCredit
    iprop(Done c Y x t b hb s hs q hq ∗ Own c (slot O s hs) (laneSum x t b hb s hs q hq))

/-- Starting the copy in of round `q`. -/
theorem startIn_run (q : ℕ) (hq : q < 4) (Q : PUnit → sProp 𝕄) :
    iprop((In c A x b hb s hs q hq ∗ OwnAny (F := F) c (slot X s hs) ∗ Idle c (cell Di s hs)) ∗ (FlyIn c A X Di x b hb s hs q hq -∗ Q ⟨⟩))
      ⊢ Runs c (startIn A X Di (8 * q + 2 * s + b) (chunk_lt hq hs hb) s hs) Q := by
  unfold FlyIn In
  exact start _ _ _ _ _ _ (View.dmaCredit_pos _ rows_pos) _ Q

/-- Waiting for the copy in of round `q`. -/
theorem waitIn_run (q : ℕ) (hq : q < 4) (Q : PUnit → sProp 𝕄) :
    iprop((FlyIn c A X Di x b hb s hs q hq ∗ Owing (F := F) c)
        ∗ (((Own c (slot X s hs) (rowsOf x (8 * q + 2 * s + b) (chunk_lt hq hs hb)) ∗ In c A x b hb s hs q hq)
            ∗ Idle c (cell Di s hs) ∗ Owing (F := F) c) -∗ Q ⟨⟩))
      ⊢ Runs c (waitIn A X Di (8 * q + 2 * s + b) (chunk_lt hq hs hb) s hs) Q :=
  wait _ _ _ _ _ _ Q

/-- Starting the copy out of round `q`. -/
theorem startOut_run (q : ℕ) (hq : q < 4) (Q : PUnit → sProp 𝕄) :
    iprop((Own c (slot O s hs) (laneSum x t b hb s hs q hq) ∗ Res (F := F) c Y b hb s hs q hq ∗ Idle c (cell Do s hs))
        ∗ (FlyOut c Y O Do x t b hb s hs q hq -∗ Q ⟨⟩))
      ⊢ Runs c (startOut Y O Do (8 * q + 2 * s + b) (chunk_lt hq hs hb) s hs) Q := by
  unfold FlyOut Done Res
  exact start _ _ _ _ _ _ (View.dmaCredit_pos _ rows_pos) _ Q

/-- Waiting for the copy out of round `q`. -/
theorem waitOut_run (q : ℕ) (hq : q < 4) (Q : PUnit → sProp 𝕄) :
    iprop((FlyOut c Y O Do x t b hb s hs q hq ∗ Owing (F := F) c)
        ∗ (((Done c Y x t b hb s hs q hq ∗ Own c (slot O s hs) (laneSum x t b hb s hs q hq))
            ∗ Idle c (cell Do s hs) ∗ Owing (F := F) c) -∗ Q ⟨⟩))
      ⊢ Runs c (waitOut Y O Do (8 * q + 2 * s + b) (chunk_lt hq hs hb) s hs) Q :=
  wait _ _ _ _ _ _ Q

/-- What every lane uses in turn: the table, and that the core owes nothing. -/
def Shared : sProp 𝕄 := iprop(Own c T t ∗ Owing (F := F) c)

/-- The sum of round `q`, into the lane's slot of the result ring. -/
theorem sum_run (q : ℕ) (hq : q < 4) (Q : PUnit → sProp 𝕄) :
    iprop((Own c (slot X s hs) (rowsOf x (8 * q + 2 * s + b) (chunk_lt hq hs hb)) ∗ Own c T t ∗ OwnAny (F := F) c (slot O s hs))
        ∗ ((Own c (slot X s hs) (rowsOf x (8 * q + 2 * s + b) (chunk_lt hq hs hb)) ∗ Own c T t
            ∗ Own c (slot O s hs) (laneSum x t b hb s hs q hq)) -∗ Q ⟨⟩))
      ⊢ Runs c (addStore T X O (2 * s + b) (tab_lt hs hb) s hs) Q :=
  sum_slot T X O _ _ s hs _ t Q

/-- A chunk of the first round. -/
theorem chunkFirst_run (Q : PUnit → sProp 𝕄) :
    iprop((FlyIn c A X Di x b hb s hs 0 (by omega) ∗ In c A x b hb s hs 1 (by omega) ∗ OwnAny (F := F) c (slot O s hs)
            ∗ Idle c (cell Do s hs) ∗ Res (F := F) c Y b hb s hs 0 (by omega) ∗ Shared c T t)
        ∗ ((In c A x b hb s hs 0 (by omega) ∗ FlyIn c A X Di x b hb s hs 1 (by omega) ∗ FlyOut c Y O Do x t b hb s hs 0 (by omega)
            ∗ Shared c T t) -∗ Q ⟨⟩))
      ⊢ Runs c (chunkFirst A Y T X O Di Do b hb s hs) Q := by
  unfold chunkFirst Shared Runs
  iintro ⟨⟨Hfi, Hin, Ho, Hdo, Hres, HT, HW⟩, Hk⟩
  rw [wp_bind]
  iapply (waitIn_run c A X Di x b hb s hs 0 (by omega))
  isplitl [Hfi HW]
  · isplitl [Hfi] <;> iassumption
  iintro ⟨⟨HX, HA⟩, Hdi, HW⟩
  rw [wp_bind]
  iapply (sum_run c T X O x t b hb s hs 0 (by omega))
  isplitl [HX HT Ho]
  · isplitl [HX]; · iexact HX
    isplitl [HT] <;> iassumption
  iintro ⟨HX, HT, Ho⟩
  rw [wp_bind]
  iapply (startOut_run c Y O Do x t b hb s hs 0 (by omega))
  isplitl [Ho Hres Hdo]
  · isplitl [Ho]; · iexact Ho
    isplitl [Hres] <;> iassumption
  iintro Hfo
  iapply (startIn_run c A X Di x b hb s hs 1 (by omega))
  isplitl [Hin HX Hdi]
  · isplitl [Hin]; · iexact Hin
    isplitl [HX]
    · iexists _; iexact HX
    · iexact Hdi
  iintro Hfi
  iapply Hk
  isplitl [HA]; · iexact HA
  isplitl [Hfi]; · iexact Hfi
  isplitl [Hfo]; · iexact Hfo
  isplitl [HT] <;> iassumption

/-- A chunk of the middle round `q + 1`. -/
theorem chunkMid_run (q : ℕ) (hq : q + 2 < 4) (Q : PUnit → sProp 𝕄) :
    iprop((FlyIn c A X Di x b hb s hs (q + 1) (by omega) ∗ FlyOut c Y O Do x t b hb s hs q (by omega)
            ∗ In c A x b hb s hs (q + 2) (by omega) ∗ Res (F := F) c Y b hb s hs (q + 1) (by omega) ∗ Shared c T t)
        ∗ ((In c A x b hb s hs (q + 1) (by omega) ∗ Done c Y x t b hb s hs q (by omega)
            ∗ FlyIn c A X Di x b hb s hs (q + 2) (by omega) ∗ FlyOut c Y O Do x t b hb s hs (q + 1) (by omega)
            ∗ Shared c T t) -∗ Q ⟨⟩))
      ⊢ Runs c (chunkMid A Y T X O Di Do b hb s hs q hq) Q := by
  unfold chunkMid Shared Runs
  iintro ⟨⟨Hfi, Hfo, Hin, Hres, HT, HW⟩, Hk⟩
  rw [wp_bind]
  iapply (waitIn_run c A X Di x b hb s hs (q + 1) (by omega))
  isplitl [Hfi HW]
  · isplitl [Hfi] <;> iassumption
  iintro ⟨⟨HX, HA⟩, Hdi, HW⟩
  rw [wp_bind]
  iapply (waitOut_run c Y O Do x t b hb s hs q (by omega))
  isplitl [Hfo HW]
  · isplitl [Hfo] <;> iassumption
  iintro ⟨⟨HY, Ho⟩, Hdo, HW⟩
  rw [wp_bind]
  iapply (sum_run c T X O x t b hb s hs (q + 1) (by omega))
  isplitl [HX HT Ho]
  · isplitl [HX]; · iexact HX
    isplitl [HT]; · iexact HT
    iexists _; iexact Ho
  iintro ⟨HX, HT, Ho⟩
  rw [wp_bind]
  iapply (startOut_run c Y O Do x t b hb s hs (q + 1) (by omega))
  isplitl [Ho Hres Hdo]
  · isplitl [Ho]; · iexact Ho
    isplitl [Hres] <;> iassumption
  iintro Hfo
  iapply (startIn_run c A X Di x b hb s hs (q + 2) (by omega))
  isplitl [Hin HX Hdi]
  · isplitl [Hin]; · iexact Hin
    isplitl [HX]
    · iexists _; iexact HX
    · iexact Hdi
  iintro Hfi
  iapply Hk
  isplitl [HA]; · iexact HA
  isplitl [HY]; · iexact HY
  isplitl [Hfi]; · iexact Hfi
  isplitl [Hfo]; · iexact Hfo
  isplitl [HT] <;> iassumption

/-- A chunk of the last round. -/
theorem chunkLast_run (Q : PUnit → sProp 𝕄) :
    iprop((FlyIn c A X Di x b hb s hs 3 (by omega) ∗ FlyOut c Y O Do x t b hb s hs 2 (by omega)
            ∗ Res (F := F) c Y b hb s hs 3 (by omega) ∗ Shared c T t)
        ∗ ((In c A x b hb s hs 3 (by omega) ∗ Done c Y x t b hb s hs 2 (by omega)
            ∗ OwnAny (F := F) c (slot X s hs) ∗ Idle c (cell Di s hs) ∗ FlyOut c Y O Do x t b hb s hs 3 (by omega)
            ∗ Shared c T t) -∗ Q ⟨⟩))
      ⊢ Runs c (chunkLast A Y T X O Di Do b hb s hs) Q := by
  unfold chunkLast Shared Runs
  iintro ⟨⟨Hfi, Hfo, Hres, HT, HW⟩, Hk⟩
  rw [wp_bind]
  iapply (waitIn_run c A X Di x b hb s hs 3 (by omega))
  isplitl [Hfi HW]
  · isplitl [Hfi] <;> iassumption
  iintro ⟨⟨HX, HA⟩, Hdi, HW⟩
  rw [wp_bind]
  iapply (waitOut_run c Y O Do x t b hb s hs 2 (by omega))
  isplitl [Hfo HW]
  · isplitl [Hfo] <;> iassumption
  iintro ⟨⟨HY, Ho⟩, Hdo, HW⟩
  rw [wp_bind]
  iapply (sum_run c T X O x t b hb s hs 3 (by omega))
  isplitl [HX HT Ho]
  · isplitl [HX]; · iexact HX
    isplitl [HT]; · iexact HT
    iexists _; iexact Ho
  iintro ⟨HX, HT, Ho⟩
  iapply (startOut_run c Y O Do x t b hb s hs 3 (by omega))
  isplitl [Ho Hres Hdo]
  · isplitl [Ho]; · iexact Ho
    isplitl [Hres] <;> iassumption
  iintro Hfo
  iapply Hk
  isplitl [HA]; · iexact HA
  isplitl [HY]; · iexact HY
  isplitl [HX]
  · iexists _; iexact HX
  isplitl [Hdi]; · iexact Hdi
  isplitl [Hfo]; · iexact Hfo
  isplitl [HT] <;> iassumption

/-! ## The lane between its turns -/

/-- The lane before anything is started. -/
def lane0 : sProp 𝕄 :=
  iprop((In c A x b hb s hs 0 (by omega) ∗ In c A x b hb s hs 1 (by omega) ∗ In c A x b hb s hs 2 (by omega) ∗ In c A x b hb s hs 3 (by omega))
    ∗ (Res (F := F) c Y b hb s hs 0 (by omega) ∗ Res (F := F) c Y b hb s hs 1 (by omega) ∗ Res (F := F) c Y b hb s hs 2 (by omega) ∗ Res (F := F) c Y b hb s hs 3 (by omega))
    ∗ OwnAny (F := F) c (slot X s hs) ∗ OwnAny (F := F) c (slot O s hs) ∗ Idle c (cell Di s hs) ∗ Idle c (cell Do s hs))
/-- The lane once its first copy in is started. -/
def lane1 : sProp 𝕄 :=
  iprop((FlyIn c A X Di x b hb s hs 0 (by omega) ∗ In c A x b hb s hs 1 (by omega) ∗ In c A x b hb s hs 2 (by omega) ∗ In c A x b hb s hs 3 (by omega))
    ∗ (Res (F := F) c Y b hb s hs 0 (by omega) ∗ Res (F := F) c Y b hb s hs 1 (by omega) ∗ Res (F := F) c Y b hb s hs 2 (by omega) ∗ Res (F := F) c Y b hb s hs 3 (by omega))
    ∗ OwnAny (F := F) c (slot O s hs) ∗ Idle c (cell Do s hs))
/-- The lane after the first round. -/
def lane2 : sProp 𝕄 :=
  iprop((In c A x b hb s hs 0 (by omega) ∗ FlyIn c A X Di x b hb s hs 1 (by omega) ∗ In c A x b hb s hs 2 (by omega) ∗ In c A x b hb s hs 3 (by omega))
    ∗ (FlyOut c Y O Do x t b hb s hs 0 (by omega) ∗ Res (F := F) c Y b hb s hs 1 (by omega) ∗ Res (F := F) c Y b hb s hs 2 (by omega) ∗ Res (F := F) c Y b hb s hs 3 (by omega)))
/-- The lane after the second round. -/
def lane3 : sProp 𝕄 :=
  iprop((In c A x b hb s hs 0 (by omega) ∗ In c A x b hb s hs 1 (by omega) ∗ FlyIn c A X Di x b hb s hs 2 (by omega) ∗ In c A x b hb s hs 3 (by omega))
    ∗ (Done c Y x t b hb s hs 0 (by omega) ∗ FlyOut c Y O Do x t b hb s hs 1 (by omega) ∗ Res (F := F) c Y b hb s hs 2 (by omega) ∗ Res (F := F) c Y b hb s hs 3 (by omega)))
/-- The lane after the third round. -/
def lane4 : sProp 𝕄 :=
  iprop((In c A x b hb s hs 0 (by omega) ∗ In c A x b hb s hs 1 (by omega) ∗ In c A x b hb s hs 2 (by omega) ∗ FlyIn c A X Di x b hb s hs 3 (by omega))
    ∗ (Done c Y x t b hb s hs 0 (by omega) ∗ Done c Y x t b hb s hs 1 (by omega) ∗ FlyOut c Y O Do x t b hb s hs 2 (by omega) ∗ Res (F := F) c Y b hb s hs 3 (by omega)))
/-- The lane after the last round. -/
def lane5 : sProp 𝕄 :=
  iprop((In c A x b hb s hs 0 (by omega) ∗ In c A x b hb s hs 1 (by omega) ∗ In c A x b hb s hs 2 (by omega) ∗ In c A x b hb s hs 3 (by omega))
    ∗ (Done c Y x t b hb s hs 0 (by omega) ∗ Done c Y x t b hb s hs 1 (by omega) ∗ Done c Y x t b hb s hs 2 (by omega) ∗ FlyOut c Y O Do x t b hb s hs 3 (by omega))
    ∗ OwnAny (F := F) c (slot X s hs) ∗ Idle c (cell Di s hs))
/-- The lane when all is done. -/
def lane6 : sProp 𝕄 :=
  iprop((In c A x b hb s hs 0 (by omega) ∗ In c A x b hb s hs 1 (by omega) ∗ In c A x b hb s hs 2 (by omega) ∗ In c A x b hb s hs 3 (by omega))
    ∗ (Done c Y x t b hb s hs 0 (by omega) ∗ Done c Y x t b hb s hs 1 (by omega) ∗ Done c Y x t b hb s hs 2 (by omega) ∗ Done c Y x t b hb s hs 3 (by omega))
    ∗ OwnAny (F := F) c (slot X s hs) ∗ OwnAny (F := F) c (slot O s hs) ∗ Idle c (cell Di s hs) ∗ Idle c (cell Do s hs))

/-- The lane's first copy in. -/
theorem turn0 (R : sProp 𝕄) (Q : PUnit → sProp 𝕄) :
    iprop((lane0 c A Y X O Di Do x b hb s hs ∗ R) ∗ ((lane1 c A Y X O Di Do x b hb s hs ∗ R) -∗ Q ⟨⟩))
      ⊢ Runs c (startIn A X Di (8 * 0 + 2 * s + b) (chunk_lt (by omega) hs hb) s hs) Q := by
  unfold lane0 lane1
  iintro ⟨⟨⟨⟨Ha, Has⟩, Hy, HX, Ho, Hdi, Hdo⟩, HR⟩, Hk⟩
  iapply (startIn_run c A X Di x b hb s hs 0 (by omega))
  isplitl [Ha HX Hdi]
  · isplitl [Ha]; · iexact Ha
    isplitl [HX] <;> iassumption
  iintro Hf
  iapply Hk
  isplitr [HR]
  · isplitl [Hf Has]
    · isplitl [Hf] <;> iassumption
    isplitl [Hy]; · iexact Hy
    isplitl [Ho] <;> iassumption
  · iexact HR

/-- The lane's first round. -/
theorem turn1 (Q : PUnit → sProp 𝕄) :
    iprop((lane1 c A Y X O Di Do x b hb s hs ∗ Shared c T t) ∗ ((lane2 c A Y X O Di Do x t b hb s hs ∗ Shared c T t) -∗ Q ⟨⟩))
      ⊢ Runs c (chunkFirst A Y T X O Di Do b hb s hs) Q := by
  unfold lane1 lane2
  iintro ⟨⟨⟨⟨Hf, Ha1, Has⟩, ⟨Hy0, Hys⟩, Ho, Hdo⟩, HS⟩, Hk⟩
  iapply (chunkFirst_run c A Y T X O Di Do x t b hb s hs)
  isplitl [Hf Ha1 Ho Hdo Hy0 HS]
  · isplitl [Hf]; · iexact Hf
    isplitl [Ha1]; · iexact Ha1
    isplitl [Ho]; · iexact Ho
    isplitl [Hdo]; · iexact Hdo
    isplitl [Hy0] <;> iassumption
  iintro ⟨Ha0, Hf, Hfo, HS⟩
  iapply Hk
  isplitr [HS]
  · isplitl [Ha0 Hf Has]
    · isplitl [Ha0]; · iexact Ha0
      isplitl [Hf] <;> iassumption
    isplitl [Hfo] <;> iassumption
  · iexact HS

/-- The lane's second round. -/
theorem turn2 (Q : PUnit → sProp 𝕄) :
    iprop((lane2 c A Y X O Di Do x t b hb s hs ∗ Shared c T t) ∗ ((lane3 c A Y X O Di Do x t b hb s hs ∗ Shared c T t) -∗ Q ⟨⟩))
      ⊢ Runs c (chunkMid A Y T X O Di Do b hb s hs 0 (by omega)) Q := by
  unfold lane2 lane3
  iintro ⟨⟨⟨⟨Ha0, Hf, Ha2, Ha3⟩, Hfo, Hy1, Hys⟩, HS⟩, Hk⟩
  iapply (chunkMid_run c A Y T X O Di Do x t b hb s hs 0 _)
  isplitl [Hf Hfo Ha2 Hy1 HS]
  · isplitl [Hf]; · iexact Hf
    isplitl [Hfo]; · iexact Hfo
    isplitl [Ha2]; · iexact Ha2
    isplitl [Hy1] <;> iassumption
  iintro ⟨Ha1, Hd, Hf, Hfo, HS⟩
  iapply Hk
  isplitr [HS]
  · isplitl [Ha0 Ha1 Hf Ha3]
    · isplitl [Ha0]; · iexact Ha0
      isplitl [Ha1]; · iexact Ha1
      isplitl [Hf] <;> iassumption
    isplitl [Hd]; · iexact Hd
    isplitl [Hfo] <;> iassumption
  · iexact HS

/-- The lane's third round. -/
theorem turn3 (Q : PUnit → sProp 𝕄) :
    iprop((lane3 c A Y X O Di Do x t b hb s hs ∗ Shared c T t) ∗ ((lane4 c A Y X O Di Do x t b hb s hs ∗ Shared c T t) -∗ Q ⟨⟩))
      ⊢ Runs c (chunkMid A Y T X O Di Do b hb s hs 1 (by omega)) Q := by
  unfold lane3 lane4
  iintro ⟨⟨⟨⟨Ha0, Ha1, Hf, Ha3⟩, Hy0, Hfo, Hy2, Hys⟩, HS⟩, Hk⟩
  iapply (chunkMid_run c A Y T X O Di Do x t b hb s hs 1 _)
  isplitl [Hf Hfo Ha3 Hy2 HS]
  · isplitl [Hf]; · iexact Hf
    isplitl [Hfo]; · iexact Hfo
    isplitl [Ha3]; · iexact Ha3
    isplitl [Hy2] <;> iassumption
  iintro ⟨Ha2, Hd, Hf, Hfo, HS⟩
  iapply Hk
  isplitr [HS]
  · isplitl [Ha0 Ha1 Ha2 Hf]
    · isplitl [Ha0]; · iexact Ha0
      isplitl [Ha1]; · iexact Ha1
      isplitl [Ha2] <;> iassumption
    isplitl [Hy0]; · iexact Hy0
    isplitl [Hd]; · iexact Hd
    isplitl [Hfo] <;> iassumption
  · iexact HS

/-- The lane's last round. -/
theorem turn4 (Q : PUnit → sProp 𝕄) :
    iprop((lane4 c A Y X O Di Do x t b hb s hs ∗ Shared c T t) ∗ ((lane5 c A Y X O Di Do x t b hb s hs ∗ Shared c T t) -∗ Q ⟨⟩))
      ⊢ Runs c (chunkLast A Y T X O Di Do b hb s hs) Q := by
  unfold lane4 lane5
  iintro ⟨⟨⟨⟨Ha0, Ha1, Ha2, Hf⟩, Hy0, Hy1, Hfo, Hy3⟩, HS⟩, Hk⟩
  iapply (chunkLast_run c A Y T X O Di Do x t b hb s hs)
  isplitl [Hf Hfo Hy3 HS]
  · isplitl [Hf]; · iexact Hf
    isplitl [Hfo]; · iexact Hfo
    isplitl [Hy3] <;> iassumption
  iintro ⟨Ha3, Hd, HX, Hdi, Hfo, HS⟩
  iapply Hk
  isplitr [HS]
  · isplitl [Ha0 Ha1 Ha2 Ha3]
    · isplitl [Ha0]; · iexact Ha0
      isplitl [Ha1]; · iexact Ha1
      isplitl [Ha2] <;> iassumption
    isplitl [Hy0 Hy1 Hd Hfo]
    · isplitl [Hy0]; · iexact Hy0
      isplitl [Hy1]; · iexact Hy1
      isplitl [Hd] <;> iassumption
    isplitl [HX] <;> iassumption
  · iexact HS

/-- The wait for the lane's last copy out. -/
theorem turn5 (Q : PUnit → sProp 𝕄) :
    iprop((lane5 c A Y X O Di Do x t b hb s hs ∗ Shared c T t) ∗ ((lane6 c A Y X O Di Do x t b hb s hs ∗ Shared c T t) -∗ Q ⟨⟩))
      ⊢ Runs c (waitOut Y O Do (8 * 3 + 2 * s + b) (chunk_lt (by omega) hs hb) s hs) Q := by
  unfold lane5 lane6 Shared
  iintro ⟨⟨⟨Ha, ⟨Hy0, Hy1, Hy2, Hfo⟩, HX, Hdi⟩, HT, HW⟩, Hk⟩
  iapply (waitOut_run c Y O Do x t b hb s hs 3 (by omega))
  isplitl [Hfo HW]
  · isplitl [Hfo] <;> iassumption
  iintro ⟨⟨Hy3, Ho⟩, Hdo, HW⟩
  iapply Hk
  isplitr [HT HW]
  · isplitl [Ha]; · iexact Ha
    isplitl [Hy0 Hy1 Hy2 Hy3]
    · isplitl [Hy0]; · iexact Hy0
      isplitl [Hy1]; · iexact Hy1
      isplitl [Hy2] <;> iassumption
    isplitl [HX]; · iexact HX
    isplitl [Ho]
    · iexists _; iexact Ho
    isplitl [Hdi] <;> iassumption
  isplitl [HT] <;> iassumption

end Lane

/-- The eight lanes at once, bank by bank. -/
def all8 (L : (b : ℕ) → b < 2 → (s : ℕ) → s < 4 → sProp 𝕄) : sProp 𝕄 :=
  iprop((L 0 (by omega) 0 (by omega) ∗ L 0 (by omega) 1 (by omega) ∗ L 0 (by omega) 2 (by omega) ∗ L 0 (by omega) 3 (by omega))
    ∗ (L 1 (by omega) 0 (by omega) ∗ L 1 (by omega) 1 (by omega) ∗ L 1 (by omega) 2 (by omega) ∗ L 1 (by omega) 3 (by omega)))

/-- If every lane's turn takes it from `L` to `L'`, using `R` and giving it back, one pass takes all eight. -/
theorem pass (c : Dev nD) (f : (b : ℕ) → b < 2 → (s : ℕ) → s < 4 → Pr F) (L L' : (b : ℕ) → b < 2 → (s : ℕ) → s < 4 → sProp 𝕄) (R : sProp 𝕄)
    (h : ∀ b hb s hs (Q : PUnit → sProp 𝕄), iprop((L b hb s hs ∗ R) ∗ ((L' b hb s hs ∗ R) -∗ Q ⟨⟩)) ⊢ Runs c (f b hb s hs) Q)
    (Q : PUnit → sProp 𝕄) :
    iprop((all8 L ∗ R) ∗ ((all8 L' ∗ R) -∗ Q ⟨⟩)) ⊢ Runs c (lanes f) Q := by
  unfold all8 lanes Runs
  iintro ⟨⟨⟨⟨H00, H01, H02, H03⟩, H10, H11, H12, H13⟩, HR⟩, Hk⟩
  rw [wp_bind]
  iapply (h 0 _ 0 _)
  isplitl [H00 HR]; · isplitl [H00] <;> iassumption
  iintro ⟨H00, HR⟩
  rw [wp_bind]
  iapply (h 1 _ 0 _)
  isplitl [H10 HR]; · isplitl [H10] <;> iassumption
  iintro ⟨H10, HR⟩
  rw [wp_bind]
  iapply (h 0 _ 1 _)
  isplitl [H01 HR]; · isplitl [H01] <;> iassumption
  iintro ⟨H01, HR⟩
  rw [wp_bind]
  iapply (h 1 _ 1 _)
  isplitl [H11 HR]; · isplitl [H11] <;> iassumption
  iintro ⟨H11, HR⟩
  rw [wp_bind]
  iapply (h 0 _ 2 _)
  isplitl [H02 HR]; · isplitl [H02] <;> iassumption
  iintro ⟨H02, HR⟩
  rw [wp_bind]
  iapply (h 1 _ 2 _)
  isplitl [H12 HR]; · isplitl [H12] <;> iassumption
  iintro ⟨H12, HR⟩
  rw [wp_bind]
  iapply (h 0 _ 3 _)
  isplitl [H03 HR]; · isplitl [H03] <;> iassumption
  iintro ⟨H03, HR⟩
  iapply (h 1 _ 3 _)
  isplitl [H13 HR]; · isplitl [H13] <;> iassumption
  iintro ⟨H13, HR⟩
  iapply Hk
  isplitr [HR]
  · isplitl [H00 H01 H02 H03]
    · isplitl [H00]; · iexact H00
      isplitl [H01]; · iexact H01
      isplitl [H02] <;> iassumption
    isplitl [H10]; · iexact H10
    isplitl [H11]; · iexact H11
    isplitl [H12] <;> iassumption
  · iexact HR

end Cert.KernelIdeal.Hand
-- ==== Proof.KernelIdeal.Split.lean ====
module

public import proofs.«01_k».proof.Proof.KernelIdeal.Lane

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resources of the proof. -/
local notation "𝕄" => MT nD τ sig Unit (Elt F) ℕ (Pipeline.UD sig nD τ) ℕ

/-! ## Families over the lanes -/

/-- A family over four is its four members. -/
theorem four (Φ : Fin 4 → sProp 𝕄) : bigSep Finset.univ Φ = iprop(Φ 0 ∗ Φ 1 ∗ Φ 2 ∗ Φ 3) := by
  rw [BI.bigSep_eq_bigSepL_of_eq (Φ := Φ) [0, 1, 2, 3] (by decide) (by decide)]
  rfl

/-- The eight lanes at once are a family over the banks and the slots. -/
theorem all8_eq (L : (b : ℕ) → b < 2 → (s : ℕ) → s < 4 → sProp 𝕄) :
    all8 L = bigSep Finset.univ fun l : Fin 2 × Fin 4 => L l.1 l.1.2 l.2 l.2.2 := by
  rw [bigSep_univ_prod, bigSep_fin_two, four, four]
  rfl

/-- Two resources of each lane are a pair of families. -/
theorem all8_sep (L L' : (b : ℕ) → b < 2 → (s : ℕ) → s < 4 → sProp 𝕄) :
    all8 (fun b hb s hs => iprop(L b hb s hs ∗ L' b hb s hs)) = iprop(all8 L ∗ all8 L') := by
  rw [all8_eq, all8_eq, all8_eq]; exact bigSep_sep ..

/-- The rounds of every lane are a family over the row blocks. -/
theorem rounds_eq (Φ : (b : ℕ) → b < 2 → (s : ℕ) → s < 4 → (q : ℕ) → q < 4 → sProp 𝕄) :
    all8 (fun b hb s hs => iprop(Φ b hb s hs 0 (by omega) ∗ Φ b hb s hs 1 (by omega) ∗ Φ b hb s hs 2 (by omega) ∗ Φ b hb s hs 3 (by omega)))
      = bigSep Finset.univ fun p : (Fin 2 × Fin 4) × Fin 4 => Φ p.1.1 p.1.1.2 p.1.2 p.1.2.2 p.2 p.2.2 := by
  rw [all8_eq]
  refine Eq.trans ?_ (bigSep_univ_prod _).symm
  exact congrArg (bigSep Finset.univ) (funext fun l => (four (F := F) (fun q => Φ l.1 l.1.2 l.2 l.2.2 q q.2)).symm)

/-! ## The row blocks -/

/-- The row block of a lane's round. -/
abbrev chunkRect (p : (Fin 2 × Fin 4) × Fin 4) : Rect S8192x1024 :=
  blockRect (8 * p.2.val + 2 * p.1.2.val + p.1.1.val) (chunk_lt p.2.2 p.1.2.2 p.1.1.2)

/-- Two rounds or two lanes have no row in common. -/
theorem chunk_disjoint (p p' : (Fin 2 × Fin 4) × Fin 4) (h : p ≠ p') : Disjoint (chunkRect p).set (chunkRect p').set := by
  rw [Finset.disjoint_left]
  intro i hi hi'
  have h1 := (Rect.mem_set_unit.mp hi) 0
  have h2 := (Rect.mem_set_unit.mp hi') 0
  obtain ⟨⟨b, s⟩, q⟩ := p
  obtain ⟨⟨b', s'⟩, q'⟩ := p'
  simp at h1 h2
  apply h
  have := b.2; have := b'.2; have := s.2; have := s'.2
  have e1 : b.val = b'.val := by omega
  have e2 : s.val = s'.val := by omega
  have e3 : q.val = q'.val := by omega
  rw [Fin.ext e1, Fin.ext e2, Fin.ext e3]

/-- Every row belongs to some round of some lane. -/
theorem chunk_cover : (Finset.univ : Finset ((Fin 2 × Fin 4) × Fin 4)).biUnion (fun p => (chunkRect p).set) = Finset.univ := by
  ext i
  simp only [Finset.mem_biUnion, Finset.mem_univ, true_and, iff_true]
  have h0 : (i 0).val < 8192 := (i 0).2
  have h1 : (i 1).val < 1024 := (i 1).2
  refine ⟨⟨⟨⟨(i 0).val / 256 % 2, by omega⟩, ⟨(i 0).val / 512 % 4, by omega⟩⟩, ⟨(i 0).val / 2048, by omega⟩⟩, Rect.mem_set_unit.mpr fun a => ?_⟩
  fin_cases a
  · simp; omega
  · simp; omega

/-- An array of 8192 rows, owned whole, is the row blocks of all rounds of all lanes, each owned at its rows. -/
theorem rows_split (c : Dev nD) (A : Memref sig .tc .hbm S8192x1024 .f32) (g : A.view.ty.Contents (Elt F)) :
    (A.view.loc (c : Thread nD τ) ↦[A.view.set]{fullShare} g : sProp 𝕄)
      = bigSep Finset.univ fun p : (Fin 2 × Fin 4) × Fin 4 =>
          Own c (block A (8 * p.2.val + 2 * p.1.2.val + p.1.1.val) (chunk_lt p.2.2 p.1.2.2 p.1.1.2))
            (rowsOf (A.view.read (Elt F) g) (8 * p.2.val + 2 * p.1.2.val + p.1.1.val) (chunk_lt p.2.2 p.1.2.2 p.1.1.2)) :=
  pointsTo_rects (c : Thread nD τ) A fullShare chunkRect (fun _ _ => rfl) chunk_disjoint chunk_cover g

/-! ## The slots -/

/-- Two slots have no element in common. -/
theorem slot_disjoint (s s' : Fin 4) (h : s ≠ s') : Disjoint (slotRect s.val s.2).set (slotRect s'.val s'.2).set := by
  rw [Finset.disjoint_left]
  intro i hi hi'
  have h1 := (Rect.mem_set_unit.mp hi) 0
  have h2 := (Rect.mem_set_unit.mp hi') 0
  simp at h1 h2
  exact h (Fin.ext (by omega))

/-- Every element of a ring belongs to some slot. -/
theorem slot_cover : (Finset.univ : Finset (Fin 4)).biUnion (fun s => (slotRect s.val s.2).set) = Finset.univ := by
  ext i
  simp only [Finset.mem_biUnion, Finset.mem_univ, true_and, iff_true]
  have h1 : (i 1).val < 256 := (i 1).2
  have h2 : (i 2).val < 1024 := (i 2).2
  refine ⟨i 0, Rect.mem_set_unit.mpr fun a => ?_⟩
  fin_cases a
  · simp
  · simp; omega
  · simp; omega

/-- A memory reference owned at anything is its elements owned at any contents. -/
theorem ownAny_eq (c : Dev nD) {sp : Space} {s : Shape} {e : EltTy} (m : Memref sig .tc sp s e) :
    OwnAny (F := F) c m = iprop(∃ f, m.view.loc (c : Thread nD τ) ↦[m.view.set]{fullShare} f) := by
  have h₁ : OwnAny (F := F) c m ⊢ iprop(∃ f, m.view.loc (c : Thread nD τ) ↦[m.view.set]{fullShare} f) := by
    unfold OwnAny Own owns
    iintro ⟨%d, %f, -, H⟩
    iexists f; iexact H
  have h₂ : iprop(∃ f, m.view.loc (c : Thread nD τ) ↦[m.view.set]{fullShare} f) ⊢ OwnAny (F := F) c m := by
    iintro ⟨%f, H⟩
    iexists _
    iapply (owns_intro (c : Thread nD τ) m fullShare f) $$ H
  exact BI.equiv_iff.mp ⟨h₁, h₂⟩

/-- The elements of the slots are disjoint, -/
theorem slot_sets_disjoint (X : Memref sig .tc .vmem S4x256x1024 .f32) (s s' : Fin 4) (h : s ≠ s') :
    Disjoint (slot X s.val s.2).view.set (slot X s'.val s'.2).view.set := by
  rw [slot_set, slot_set, View.set_slice, View.set_slice]
  exact (Finset.disjoint_map _).mpr (slot_disjoint s s' h)

/-- and together they are the ring's. -/
theorem slot_sets_cover (X : Memref sig .tc .vmem S4x256x1024 .f32) :
    Finset.univ.biUnion (fun s : Fin 4 => (slot X s.val s.2).view.set) = X.view.set := by
  ext i; constructor
  · intro hi
    obtain ⟨s, -, hi⟩ := Finset.mem_biUnion.mp hi
    rw [slot_set] at hi
    exact View.set_slice_subset _ _ hi
  · intro hi
    rw [View.set, Finset.mem_map] at hi
    obtain ⟨x, -, rfl⟩ := hi
    obtain ⟨s, -, hx⟩ := Finset.mem_biUnion.mp (slot_cover.symm ▸ Finset.mem_univ x)
    exact Finset.mem_biUnion.mpr ⟨s, Finset.mem_univ _, by rw [slot_set, View.set_slice]; exact Finset.mem_map_of_mem _ hx⟩

/-- The four slots of a ring, owned at anything. -/
abbrev slots (c : Dev nD) (X : Memref sig .tc .vmem S4x256x1024 .f32) : sProp 𝕄 :=
  iprop(OwnAny (F := F) c (slot X 0 (by omega)) ∗ OwnAny (F := F) c (slot X 1 (by omega))
    ∗ OwnAny (F := F) c (slot X 2 (by omega)) ∗ OwnAny (F := F) c (slot X 3 (by omega)))

/-- They are a family. -/
theorem slots_eq (c : Dev nD) (X : Memref sig .tc .vmem S4x256x1024 .f32) :
    slots (F := F) c X = bigSep Finset.univ fun s : Fin 4 => OwnAny (F := F) c (slot X s.val s.2) := by
  rw [four]
  rfl

/-- A slot owned at anything, in the ring's buffer. -/
theorem slotAny_eq (c : Dev nD) (X : Memref sig .tc .vmem S4x256x1024 .f32) (s : Fin 4) :
    OwnAny (F := F) c (slot X s.val s.2)
      = iprop(∃ f : Buf (Elt F) (X.view.loc (c : Thread nD τ)), X.view.loc (c : Thread nD τ) ↦[(slot X s.val s.2).view.set]{fullShare} f) :=
  ownAny_eq c (slot X s.val s.2)

/-- A ring owned at anything is its four slots owned at anything. -/
theorem ring_split (c : Dev nD) (X : Memref sig .tc .vmem S4x256x1024 .f32) : OwnAny (F := F) c X ⊢ slots (F := F) c X := by
  have h (f : Buf (Elt F) (X.view.loc (c : Thread nD τ))) :
      (X.view.loc (c : Thread nD τ) ↦[X.view.set]{fullShare} f : sProp 𝕄) ⊢ slots (F := F) c X := by
    rw [slots_eq, Ring.pointsTo_sub_blocks (fun s : Fin 4 => (slot X s.val s.2).view.set) (slot_sets_disjoint X) X.view.set (slot_sets_cover X) f]
    have hs (s : Fin 4) : (X.view.loc (c : Thread nD τ) ↦[(slot X s.val s.2).view.set]{fullShare} f : sProp 𝕄)
        ⊢ OwnAny (F := F) c (slot X s.val s.2) := by
      rw [slotAny_eq]
      iintro H; iexists f; iexact H
    exact BI.bigSep_mono fun s _ => hs s
  rw [ownAny_eq]
  iintro ⟨%f, H⟩
  iapply (h f) $$ H

/-- The four slots join again. -/
theorem ring_join (c : Dev nD) (X : Memref sig .tc .vmem S4x256x1024 .f32) : slots (F := F) c X ⊢ OwnAny (F := F) c X := by
  have h := funext (slotAny_eq (F := F) c X)
  rw [slots_eq, h, ownAny_eq]
  have hj := Ring.pointsTo_sub_blocks_join_exists (Ix := Unit) (Name := ℕ) (U := Pipeline.UD sig nD τ) (Lvl := ℕ) (Val := Elt F)
    (ℓ := X.view.loc (c : Thread nD τ)) (q := fullShare) (fun s : Fin 4 => (slot X s.val s.2).view.set)
    (slot_sets_disjoint X) X.view.set (slot_sets_cover X) X.view.junk
  exact hj

end Cert.KernelIdeal.Hand
-- ==== Proof.KernelIdeal.Body.lean ====
module

public import proofs.«01_k».proof.Proof.KernelIdeal.Split

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resources of the proof. -/
local notation "𝕄" => MT nD τ sig Unit (Elt F) ℕ (Pipeline.UD sig nD τ) ℕ

/-! ## What the result array holds -/

/-- The table row and column an element of the rows takes: the table's rows repeat every 2048 rows. -/
def tabIdx (i : S8192x1024.Idx) : S2048x1024.Idx :=
  fun a => ⟨(i a).val % S2048x1024.size a, Nat.mod_lt _ (by revert a; decide)⟩

/-- The rows `x` plus the table `t`, the table repeated. -/
def total (x : S8192x1024.Idx → Elt F .f32) (t : S2048x1024.Idx → Elt F .f32) : S8192x1024.Idx → Elt F .f32 :=
  addf (φ := .f32) x fun i => t (tabIdx i)

/-- Row block `8q + 2s + b` takes block `2s + b` of the table. -/
theorem tabIdx_block {b : ℕ} (hb : b < 2) {s : ℕ} (hs : s < 4) {q : ℕ} (hq : q < 4) (i : S256x1024.Idx) :
    tabIdx ((blockRect (8 * q + 2 * s + b) (chunk_lt hq hs hb)).emb i) = (tableRect (2 * s + b) (tab_lt hs hb)).emb i := by
  funext a
  apply Fin.ext
  have h0 : (i 0).val < 256 := (i 0).2
  have h1 : (i 1).val < 1024 := (i 1).2
  fin_cases a
  · show (256 * (8 * q + 2 * s + b) + 1 * (i 0).val) % 2048 = 256 * (2 * s + b) + 1 * (i 0).val
    omega
  · show (0 + 1 * (i 1).val) % 1024 = 0 + 1 * (i 1).val
    omega

/-- A lane's sum of a round is its row block of the whole sum. -/
theorem rowsOf_total (x : S8192x1024.Idx → Elt F .f32) (t : S2048x1024.Idx → Elt F .f32) (b : ℕ) (hb : b < 2) (s : ℕ) (hs : s < 4) (q : ℕ) (hq : q < 4) :
    rowsOf (total x t) (8 * q + 2 * s + b) (chunk_lt hq hs hb) = laneSum x t b hb s hs q hq := by
  have h : (fun i => t (tabIdx ((blockRect (8 * q + 2 * s + b) (chunk_lt hq hs hb)).emb i))) = tabRows t (2 * s + b) (tab_lt hs hb) :=
    funext fun i => congrArg t (tabIdx_block hb hs hq i)
  unfold laneSum
  rw [← h]
  rfl

/-! ## The whole schedule -/

section

variable (c : Dev nD) (A Y : Memref sig .tc .hbm S8192x1024 .f32) (P : Memref sig .tc .hbm S2048x4096 .f32)
  (T : Memref sig .tc .vmem S2048x1024 .f32) (hT : T.IsWhole) (X0 X1 O0 O1 : Memref sig .tc .vmem S4x256x1024 .f32)
  (D : DmaSems sig S_) (Di0 Di1 Do0 Do1 : DmaSems sig S4) (x : S8192x1024.Idx → Elt F .f32) (t : S2048x1024.Idx → Elt F .f32)

/-- The part of the padded table the kernel reads: the first 1024 columns. -/
abbrev tableOf : Memref sig .tc .hbm S2048x1024 .f32 :=
  P.slice (Rect.unit (s := S2048x4096) ![0, 0] S2048x1024.size inb_S2048x4096_S2048x1024_0_0) (fun _ => rfl)

/-- All the input rows, lane by lane. -/
def allIn : sProp 𝕄 := all8 fun b hb s hs => iprop(In c A x b hb s hs 0 (by omega) ∗ In c A x b hb s hs 1 (by omega) ∗ In c A x b hb s hs 2 (by omega) ∗ In c A x b hb s hs 3 (by omega))
/-- All the result rows, not written yet. -/
def allRes : sProp 𝕄 := all8 fun b hb s hs => iprop(Res (F := F) c Y b hb s hs 0 (by omega) ∗ Res (F := F) c Y b hb s hs 1 (by omega) ∗ Res (F := F) c Y b hb s hs 2 (by omega) ∗ Res (F := F) c Y b hb s hs 3 (by omega))
/-- All the result rows, each holding its sum. -/
def allDone : sProp 𝕄 := all8 fun b hb s hs => iprop(Done c Y x t b hb s hs 0 (by omega) ∗ Done c Y x t b hb s hs 1 (by omega) ∗ Done c Y x t b hb s hs 2 (by omega) ∗ Done c Y x t b hb s hs 3 (by omega))
/-- The rings' slots and the rings' cells, all free. -/
def allFree : sProp 𝕄 := all8 fun b hb s hs => iprop(OwnAny (F := F) c (slot (bank X0 X1 b) s hs) ∗ OwnAny (F := F) c (slot (bank O0 O1 b) s hs)
  ∗ Idle c (cell (bank Di0 Di1 b) s hs) ∗ Idle c (cell (bank Do0 Do1 b) s hs))

/-- Both banks of the input are the same array. -/
theorem bank_same {α : Type} (y : α) (b : ℕ) : bank y y b = y := ite_self _

/-- The schedule, from all that it uses free to the result rows holding the sums and all else free again. -/
theorem schedule_run (Q : PUnit → sProp 𝕄) :
    iprop((Own c (tableOf P) t ∗ OwnAny (F := F) c T ∗ Idle c D.sem ∗ Owing (F := F) c ∗ allIn c A x ∗ allRes (F := F) c Y
          ∗ allFree (F := F) c X0 X1 O0 O1 Di0 Di1 Do0 Do1)
        ∗ ((Own c (tableOf P) t ∗ OwnAny (F := F) c T ∗ Idle c D.sem ∗ Owing (F := F) c ∗ allIn c A x ∗ allDone c Y x t
          ∗ allFree (F := F) c X0 X1 O0 O1 Di0 Di1 Do0 Do1) -∗ Q ⟨⟩))
      ⊢ Runs c (schedule A A P Y T hT X0 X1 O0 O1 D Di0 Di1 Do0 Do1) Q := by
  have h0 : iprop(allIn c A x ∗ allRes (F := F) c Y ∗ allFree (F := F) c X0 X1 O0 O1 Di0 Di1 Do0 Do1)
      = all8 fun b hb s hs => lane0 c A Y (bank X0 X1 b) (bank O0 O1 b) (bank Di0 Di1 b) (bank Do0 Do1 b) x b hb s hs := by
    unfold allIn allRes allFree lane0
    rw [← all8_sep, ← all8_sep]
  have h6 : iprop(allIn c A x ∗ allDone c Y x t ∗ allFree (F := F) c X0 X1 O0 O1 Di0 Di1 Do0 Do1)
      = all8 fun b hb s hs => lane6 c A Y (bank X0 X1 b) (bank O0 O1 b) (bank Di0 Di1 b) (bank Do0 Do1 b) x t b hb s hs := by
    unfold allIn allDone allFree lane6
    rw [← all8_sep, ← all8_sep]
  rw [h0, h6]
  unfold schedule Runs
  simp only [bank_same]
  iintro ⟨⟨HP, HT, HD, HW, HL⟩, Hk⟩
  rw [wp_bind]
  iapply (start (tableOf P) T D.sem _ _ _ (View.dmaCredit_pos _ (by decide)) t)
  isplitl [HP HT HD]
  · isplitl [HP]; · iexact HP
    isplitl [HT] <;> iassumption
  iintro Hf
  rw [wp_bind]
  iapply (pass c _ _ _ _ (fun b hb s hs Q => turn0 c A Y (bank X0 X1 b) (bank O0 O1 b) (bank Di0 Di1 b) (bank Do0 Do1 b) x b hb s hs _ Q))
  isplitl [HL Hf]
  · isplitl [HL]; · iexact HL
    iexact Hf
  iintro ⟨HL, Hf⟩
  rw [wp_bind]
  iapply (wait (tableOf P) T D.sem)
  isplitl [Hf HW]
  · isplitl [Hf] <;> iassumption
  iintro ⟨⟨HT, HP⟩, HD, HW⟩
  rw [wp_bind]
  iapply (pass c _ _ _ (Shared c T t) (fun b hb s hs Q => turn1 c A Y T (bank X0 X1 b) (bank O0 O1 b) (bank Di0 Di1 b) (bank Do0 Do1 b) x t b hb s hs Q))
  isplitl [HL HT HW]
  · isplitl [HL]; · iexact HL
    unfold Shared
    isplitl [HT] <;> iassumption
  iintro ⟨HL, HS⟩
  rw [wp_bind]
  iapply (pass c _ _ _ (Shared c T t) (fun b hb s hs Q => turn2 c A Y T (bank X0 X1 b) (bank O0 O1 b) (bank Di0 Di1 b) (bank Do0 Do1 b) x t b hb s hs Q))
  isplitl [HL HS]; · isplitl [HL] <;> iassumption
  iintro ⟨HL, HS⟩
  rw [wp_bind]
  iapply (pass c _ _ _ (Shared c T t) (fun b hb s hs Q => turn3 c A Y T (bank X0 X1 b) (bank O0 O1 b) (bank Di0 Di1 b) (bank Do0 Do1 b) x t b hb s hs Q))
  isplitl [HL HS]; · isplitl [HL] <;> iassumption
  iintro ⟨HL, HS⟩
  rw [wp_bind]
  iapply (pass c _ _ _ (Shared c T t) (fun b hb s hs Q => turn4 c A Y T (bank X0 X1 b) (bank O0 O1 b) (bank Di0 Di1 b) (bank Do0 Do1 b) x t b hb s hs Q))
  isplitl [HL HS]; · isplitl [HL] <;> iassumption
  iintro ⟨HL, HS⟩
  iapply (pass c _ _ _ (Shared c T t) (fun b hb s hs Q => turn5 c A Y T (bank X0 X1 b) (bank O0 O1 b) (bank Di0 Di1 b) (bank Do0 Do1 b) x t b hb s hs Q))
  isplitl [HL HS]; · isplitl [HL] <;> iassumption
  unfold Shared
  iintro ⟨HL, HT, HW⟩
  iapply Hk
  isplitl [HP]; · iexact HP
  isplitl [HT]
  · iexists _; iexact HT
  isplitl [HD]; · iexact HD
  isplitl [HW] <;> iassumption

end

/-- The input array, held whole at `x`, is all its rows lane by lane. -/
theorem allIn_eq (c : Dev nD) (A : Memref sig .tc .hbm S8192x1024 .f32) (g : A.view.ty.Contents (Elt F)) :
    allIn c A (A.view.read (Elt F) g) = (A.view.loc (c : Thread nD τ) ↦[A.view.set]{fullShare} g : sProp 𝕄) := by
  unfold allIn
  rw [rows_split]
  exact rounds_eq fun b hb s hs q hq => In c A (A.view.read (Elt F) g) b hb s hs q hq

/-- The result array, held whole at the sums, is all its rows written. -/
theorem allDone_eq (c : Dev nD) (Y : Memref sig .tc .hbm S8192x1024 .f32) (x : S8192x1024.Idx → Elt F .f32) (t : S2048x1024.Idx → Elt F .f32)
    (g : Y.view.ty.Contents (Elt F)) (hg : Y.view.read (Elt F) g = total x t) :
    allDone c Y x t = (Y.view.loc (c : Thread nD τ) ↦[Y.view.set]{fullShare} g : sProp 𝕄) := by
  unfold allDone
  rw [rows_split, hg]
  refine (rounds_eq fun b hb s hs q hq => Done c Y x t b hb s hs q hq).trans ?_
  exact congrArg (bigSep Finset.univ) (funext fun p => by rw [rowsOf_total]; rfl)

/-- The result array, held whole at anything, is all its rows free to be written. -/
theorem allRes_intro (c : Dev nD) (Y : Memref sig .tc .hbm S8192x1024 .f32) (g : Y.view.ty.Contents (Elt F)) :
    (Y.view.loc (c : Thread nD τ) ↦[Y.view.set]{fullShare} g : sProp 𝕄) ⊢ allRes (F := F) c Y := by
  unfold allRes
  rw [rows_split, rounds_eq fun b hb s hs q hq => Res (F := F) c Y b hb s hs q hq]
  have h (p : (Fin 2 × Fin 4) × Fin 4) :
      Own c (block Y (8 * p.2.val + 2 * p.1.2.val + p.1.1.val) (chunk_lt p.2.2 p.1.2.2 p.1.1.2))
            (rowsOf (Y.view.read (Elt F) g) (8 * p.2.val + 2 * p.1.2.val + p.1.1.val) (chunk_lt p.2.2 p.1.2.2 p.1.1.2))
        ⊢ Res (F := F) c Y p.1.1 p.1.1.2 p.1.2 p.1.2.2 p.2 p.2.2 := by
    unfold Res
    iintro H; iexists _; iexact H
  exact BI.bigSep_mono fun p _ => h p

end Cert.KernelIdeal.Hand
-- ==== Proof.KernelIdeal.Run.lean ====
module

public import proofs.«01_k».proof.Proof.KernelIdeal.Body

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-- The resources of the proof. -/
local notation "𝕄" => MT nD τ sig Unit (Elt F) ℕ (Pipeline.UD sig nD τ) ℕ

variable (m : (ℓ : Loc nD τ sig) → Buf (Elt F) ℓ) (ρ : Dev nD → PrngReg)

/-! ## The kernel's cells and buffers -/

/-- The kernel's seventeen semaphore cells. -/
abbrev osem0 : Fin 17 → SemLoc sig := fun j => SemLoc.dma j

/-- They are distinct and the kernel's own. -/
theorem ownSemFacts0 : Pipeline.OwnSemFacts (cfg0.spec) osem0 := by decide

/-- The four cells of a semaphore array, idle. -/
abbrev cells (c : Dev nD) (D : DmaSems sig S4) : sProp 𝕄 :=
  iprop(Idle (F := F) c (cell D 0 (by omega)) ∗ Idle (F := F) c (cell D 1 (by omega))
    ∗ Idle (F := F) c (cell D 2 (by omega)) ∗ Idle (F := F) c (cell D 3 (by omega)))

/-- The kernel's cells, all idle, as a chain. -/
theorem ownSems0_chain (c : Dev nD) :
    (Pipeline.ownSems0 (Ix := Unit) (Name := ℕ) (U := Pipeline.UD sig nD τ) (Lvl := ℕ) (Val := Elt F) (τ := τ) osem0 c : sProp 𝕄)
      = iprop(Idle (F := F) c cc0_scratch5.sem
          ∗ Idle (F := F) c (cell cc0_scratch6 0 (by omega)) ∗ Idle (F := F) c (cell cc0_scratch6 1 (by omega)) ∗ Idle (F := F) c (cell cc0_scratch6 2 (by omega)) ∗ Idle (F := F) c (cell cc0_scratch6 3 (by omega))
          ∗ Idle (F := F) c (cell cc0_scratch7 0 (by omega)) ∗ Idle (F := F) c (cell cc0_scratch7 1 (by omega)) ∗ Idle (F := F) c (cell cc0_scratch7 2 (by omega)) ∗ Idle (F := F) c (cell cc0_scratch7 3 (by omega))
          ∗ Idle (F := F) c (cell cc0_scratch8 0 (by omega)) ∗ Idle (F := F) c (cell cc0_scratch8 1 (by omega)) ∗ Idle (F := F) c (cell cc0_scratch8 2 (by omega)) ∗ Idle (F := F) c (cell cc0_scratch8 3 (by omega))
          ∗ Idle (F := F) c (cell cc0_scratch9 0 (by omega)) ∗ Idle (F := F) c (cell cc0_scratch9 1 (by omega)) ∗ Idle (F := F) c (cell cc0_scratch9 2 (by omega)) ∗ Idle (F := F) c (cell cc0_scratch9 3 (by omega))) := by
  rw [Pipeline.ownSems0_eq_of_list c osem0 [0, 1, 2, 3, 4, 5, 6, 7, 8, 9, 10, 11, 12, 13, 14, 15, 16] (by decide) (by decide)]; rfl

/-- Four resources before a fifth are one group before it. -/
theorem group4 (a b c d R : sProp 𝕄) : iprop(a ∗ b ∗ c ∗ d ∗ R) = iprop((a ∗ b ∗ c ∗ d) ∗ R) := by
  have h₁ : iprop(a ∗ b ∗ c ∗ d ∗ R) ⊢ iprop((a ∗ b ∗ c ∗ d) ∗ R) := by
    iintro ⟨Ha, Hb, Hc, Hd, HR⟩
    isplitr [HR]
    · isplitl [Ha]; · iexact Ha
      isplitl [Hb]; · iexact Hb
      isplitl [Hc] <;> iassumption
    · iexact HR
  have h₂ : iprop((a ∗ b ∗ c ∗ d) ∗ R) ⊢ iprop(a ∗ b ∗ c ∗ d ∗ R) := by
    iintro ⟨⟨Ha, Hb, Hc, Hd⟩, HR⟩
    isplitl [Ha]; · iexact Ha
    isplitl [Hb]; · iexact Hb
    isplitl [Hc]; · iexact Hc
    isplitl [Hd] <;> iassumption
  exact BI.equiv_iff.mp ⟨h₁, h₂⟩

/-- The four cells of an array before anything else. -/
theorem cells_before (c : Dev nD) (D : DmaSems sig S4) (R : sProp 𝕄) :
    iprop(Idle (F := F) c (cell D 0 (by decide)) ∗ Idle (F := F) c (cell D 1 (by decide)) ∗ Idle (F := F) c (cell D 2 (by decide))
        ∗ Idle (F := F) c (cell D 3 (by decide)) ∗ R)
      = iprop(cells (F := F) c D ∗ R) := group4 ..

/-- The kernel's cells, all idle, array by array. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(Idle (F := F) c cc0_scratch5.sem ∗ cells (F := F) c cc0_scratch6 ∗ cells (F := F) c cc0_scratch7
          ∗ cells (F := F) c cc0_scratch8 ∗ cells (F := F) c cc0_scratch9) := by
  rw [ownSems0_chain, cells_before c cc0_scratch6, cells_before c cc0_scratch7, cells_before c cc0_scratch8]

/-- The buffers the kernel only reads: the table and the rows. -/
def H0 : Finset (Ref sig .tc) := {main_v0, main_v1}
/-- The buffer it writes: the result rows. -/
def R0 : Finset (Ref sig .tc) := {main_v2}

theorem H0_sub : H0 ⊆ Pipeline.restRefs sig (cfg0.spec) := by decide
theorem R0_sub : R0 ⊆ Pipeline.restRefs sig (cfg0.spec) \ H0 := by decide

/-- The rows as the kernel finds them. -/
abbrev rowsIn (c : Dev nD) : S8192x1024.Idx → Elt F .f32 := V m c main_v1
/-- The table as the kernel finds it. -/
abbrev tableIn (c : Dev nD) : S2048x1024.Idx → Elt F .f32 := (tableOf (Memref.whole main_v0)).view.read (Elt F) (V m c main_v0)

/-- What every buffer holds when the kernel is done: the result rows hold the sums, all else is as it was. -/
def G (c : Dev nD) (b : Ref sig .tc) : Buf (Elt F) ((c : Thread nD τ).loc b) :=
  Function.update (V m c) main_v2 (total (rowsIn m c) (tableIn m c)) b

theorem G_result (c : Dev nD) : G m c main_v2 = total (rowsIn m c) (tableIn m c) := Function.update_self ..

/-- A buffer at given contents. -/
abbrev At (c : Dev nD) (b : Ref sig .tc) (f : Buf (Elt F) ((c : Thread nD τ).loc b)) : sProp 𝕄 := ((c : Thread nD τ).loc b) ↦{fullShare} f

/-- A buffer as the array it is, held at every cell. -/
theorem at_whole (c : Dev nD) (b : Ref sig .tc) (f : Buf (Elt F) ((c : Thread nD τ).loc b)) :
    (((Memref.whole b).view.loc (c : Thread nD τ)) ↦[(Memref.whole b).view.set]{fullShare} f : sProp 𝕄) = At c b f := by
  rw [show (Memref.whole b).view.set = Finset.univ from View.set_whole b]

/-- The kernel's state: its scratch and cells free, the table and the rows as found, the result rows at `g`. -/
theorem state_eq (c : Dev nD) (g : (c : Dev nD) → (b : Ref sig .tc) → Buf (Elt F) ((c : Thread nD τ).loc b)) :
    (Pipeline.ΦDRV osem0 (cfg0.spec) H0 R0 (V m) g c : sProp 𝕄)
      = iprop((OwnAny (F := F) c (Memref.whole cc0_scratch0) ∗ OwnAny (F := F) c (Memref.whole cc0_scratch1) ∗ OwnAny (F := F) c (Memref.whole cc0_scratch2)
            ∗ OwnAny (F := F) c (Memref.whole cc0_scratch3) ∗ OwnAny (F := F) c (Memref.whole cc0_scratch4))
          ∗ (Idle (F := F) c cc0_scratch5.sem ∗ cells (F := F) c cc0_scratch6 ∗ cells (F := F) c cc0_scratch7
            ∗ cells (F := F) c cc0_scratch8 ∗ cells (F := F) c cc0_scratch9)
          ∗ (At c main_v0 (V m c main_v0) ∗ At c main_v1 (V m c main_v1))
          ∗ At c main_v2 (g c main_v2)) := by
  unfold Pipeline.ΦDRV
  rw [scopedRest0_eq, ownSems0_eq, BI.bigSep_eq_bigSepL_of_eq (S := H0) [main_v0, main_v1] (by decide) (by decide),
    BI.bigSep_eq_bigSepL_of_eq (S := R0) [main_v2] (by decide) (by decide)]
  simp only [OwnAny, Own, owns_whole]
  rfl

/-- Slots and cells free, ring by ring and array by array, are all of them free, lane by lane. -/
theorem allFree_eq (c : Dev nD) (X0 X1 O0 O1 : Memref sig .tc .vmem S4x256x1024 .f32) (Di0 Di1 Do0 Do1 : DmaSems sig S4) :
    allFree (F := F) c X0 X1 O0 O1 Di0 Di1 Do0 Do1
      = iprop((slots (F := F) c X0 ∗ slots (F := F) c X1) ∗ (slots (F := F) c O0 ∗ slots (F := F) c O1)
          ∗ (cells (F := F) c Di0 ∗ cells (F := F) c Di1) ∗ (cells (F := F) c Do0 ∗ cells (F := F) c Do1)) := by
  unfold allFree
  rw [all8_sep, all8_sep, all8_sep]
  rfl

/-- The padded table, held whole, is the part the kernel reads and the rest. -/
theorem table_split (c : Dev nD) (f : Buf (Elt F) ((c : Thread nD τ).loc main_v0)) :
    (At c main_v0 f : sProp 𝕄) ⊣⊢ iprop(Own c (tableOf (Memref.whole main_v0)) ((tableOf (Memref.whole main_v0)).view.read (Elt F) f)
      ∗ ((c : Thread nD τ).loc main_v0) ↦[Finset.univ \ (tableOf (Memref.whole main_v0)).view.set]{fullShare} f) := by
  have h : (Own c (tableOf (Memref.whole main_v0)) ((tableOf (Memref.whole main_v0)).view.read (Elt F) f) : sProp 𝕄)
      = ((c : Thread nD τ).loc main_v0) ↦[(tableOf (Memref.whole main_v0)).view.set]{fullShare} f :=
    owns_slice_read (c : Thread nD τ) (Memref.whole main_v0) fullShare
      (Rect.unit (s := S2048x4096) ![0, 0] S2048x1024.size inb_S2048x4096_S2048x1024_0_0) (fun _ => rfl) f
  rw [h]
  exact pointsTo_split_subset (Finset.subset_univ _)

/-- The kernel's body, from the launch state to the state in which the result rows hold the sums. -/
theorem body_run (c : Dev nD) (t : Fin cfg0.N) :
    iprop(Pipeline.ΦDRV osem0 (cfg0.spec) H0 R0 (V m) (V m) c ∗ Owing (F := F) c)
      ⊢ Runs c (bodyAt0 t) fun _ => iprop(Pipeline.ΦDRV osem0 (cfg0.spec) H0 R0 (V m) (G m) c ∗ Owing (F := F) c) := by
  rw [state_eq, state_eq, G_result]
  unfold bodyAt0 Runs
  rw [body_eq]
  have hin : (At c main_v1 (V m c main_v1) : sProp 𝕄) = allIn c (Memref.whole main_v1) (rowsIn m c) :=
    ((allIn_eq (F := F) c (Memref.whole main_v1) (V m c main_v1)).trans (at_whole c main_v1 (V m c main_v1))).symm
  have hres : (At c main_v2 (V m c main_v2) : sProp 𝕄) ⊢ allRes (F := F) c (Memref.whole main_v2) := by
    rw [← at_whole]; exact allRes_intro (F := F) c (Memref.whole main_v2) (V m c main_v2)
  have hdone : allDone c (Memref.whole main_v2) (rowsIn m c) (tableIn m c) = (At c main_v2 (total (rowsIn m c) (tableIn m c)) : sProp 𝕄) :=
    allDone_eq (F := F) c (Memref.whole main_v2) (rowsIn m c) (tableIn m c) (total (rowsIn m c) (tableIn m c)) rfl |>.trans (at_whole c main_v2 _)
  rw [hin, ← hdone]
  iintro ⟨⟨⟨HT, HX0, HX1, HO0, HO1⟩, ⟨HD, HDi0, HDi1, HDo0, HDo1⟩, ⟨HP, HA⟩, HY⟩, HW⟩
  ihave HX0 := (ring_split c (Memref.whole cc0_scratch1)) $$ HX0
  ihave HX1 := (ring_split c (Memref.whole cc0_scratch2)) $$ HX1
  ihave HO0 := (ring_split c (Memref.whole cc0_scratch3)) $$ HO0
  ihave HO1 := (ring_split c (Memref.whole cc0_scratch4)) $$ HO1
  ihave HY := hres $$ HY
  ihave HP := (table_split c (V m c main_v0)).1 $$ HP
  icases HP with ⟨HP, HP'⟩
  iapply (schedule_run c (Memref.whole main_v1) (Memref.whole main_v2) (Memref.whole main_v0) (Memref.whole cc0_scratch0) (Memref.isWhole_whole _)
    (Memref.whole cc0_scratch1) (Memref.whole cc0_scratch2) (Memref.whole cc0_scratch3) (Memref.whole cc0_scratch4)
    cc0_scratch5 cc0_scratch6 cc0_scratch7 cc0_scratch8 cc0_scratch9 (rowsIn m c) (tableIn m c))
  rw [allFree_eq]
  isplitr [HP']
  · isplitl [HP]; · iexact HP
    isplitl [HT]; · iexact HT
    isplitl [HD]; · iexact HD
    isplitl [HW]; · iexact HW
    isplitl [HA]; · iexact HA
    isplitl [HY]; · iexact HY
    isplitl [HX0 HX1]; · isplitl [HX0] <;> iassumption
    isplitl [HO0 HO1]; · isplitl [HO0] <;> iassumption
    isplitl [HDi0 HDi1]; · isplitl [HDi0] <;> iassumption
    isplitl [HDo0] <;> iassumption
  iintro ⟨HP, HT, HD, HW, HA, HY, ⟨HX0, HX1⟩, ⟨HO0, HO1⟩, ⟨HDi0, HDi1⟩, HDo0, HDo1⟩
  ihave HX0 := (ring_join c (Memref.whole cc0_scratch1)) $$ HX0
  ihave HX1 := (ring_join c (Memref.whole cc0_scratch2)) $$ HX1
  ihave HO0 := (ring_join c (Memref.whole cc0_scratch3)) $$ HO0
  ihave HO1 := (ring_join c (Memref.whole cc0_scratch4)) $$ HO1
  isplitr [HW]
  · isplitl [HT HX0 HX1 HO0 HO1]
    · isplitl [HT]; · iexact HT
      isplitl [HX0]; · iexact HX0
      isplitl [HX1]; · iexact HX1
      isplitl [HO0] <;> iassumption
    isplitl [HD HDi0 HDi1 HDo0 HDo1]
    · isplitl [HD]; · iexact HD
      isplitl [HDi0]; · iexact HDi0
      isplitl [HDi1]; · iexact HDi1
      isplitl [HDo0] <;> iassumption
    isplitl [HP HP' HA]
    · isplitr [HA]
      · iapply (table_split c (V m c main_v0)).2
        isplitl [HP] <;> iassumption
      · iexact HA
    · iexact HY
  · iexact HW

/-! ## The launch -/

/-- What the launch needs to know of the one call: no windows, the kernel's state before and after its one point. -/
def dats (_ : Fin 1) (c : Dev nD) : Dat τ (Elt F) Unit ℕ (Pipeline.UD sig nD τ) ℕ cfg0 c where
  A w := w.elim0
  after w := w.elim0
  Φ t := Pipeline.ΦDRV osem0 (cfg0.spec) H0 R0 (V m) (if t.val = 0 then V m else G m) c
  q _ := fullShare
  owed _ := 0

theorem point_val (t : Fin cfg0.N) : t.val = 0 := congrArg Fin.val (fin_N0 t)

/-- The body's row of the program's definitions. -/
theorem defs₀_row (t : Fin cfg0.N) :
    defs₀ (F := F) .tc cfg0.body (cfg0.bodyArgs t (cfg0.slots t)) = bodyAt0 t := by
  unfold defs₀; rw [Defs.onTc_tc]

/-- The body at its one point. -/
theorem sound_body (c : Dev nD) (t : Fin cfg0.N) :
    iprop((dats m 0 c).Φ t.castSucc ∗ (dats m 0 c).owesAt () t.castSucc)
      ⊢ Runs c (bodyAt0 t) fun _ => iprop((dats m 0 c).Φ t.succ ∗ (dats m 0 c).owesAt () t.succ) := by
  rw [show (dats m 0 c).Φ t.castSucc = Pipeline.ΦDRV osem0 (cfg0.spec) H0 R0 (V m) (V m) c from by
      show Pipeline.ΦDRV osem0 (cfg0.spec) H0 R0 (V m) (if t.castSucc.val = 0 then V m else G m) c = _
      rw [if_pos (by rw [Fin.val_castSucc]; exact point_val t)],
    show (dats m 0 c).Φ t.succ = Pipeline.ΦDRV osem0 (cfg0.spec) H0 R0 (V m) (G m) c from by
      show Pipeline.ΦDRV osem0 (cfg0.spec) H0 R0 (V m) (if t.succ.val = 0 then V m else G m) c = _
      rw [if_neg (by rw [Fin.val_succ]; omega)]]
  unfold Dat.owesAt Pipeline.owesWithin
  rw [show (dats m 0 c).owed t.castSucc = 0 from rfl, show (dats m 0 c).owed t.succ = 0 from rfl]
  iintro ⟨HS, %W, -, HW⟩
  iapply (wp_wand_r frame (wpE (defs₀ (F := F)) Variants.none (c : Thread nD τ) none) Set.univ)
  isplitl [HS HW]
  · iapply (body_run m c t)
    isplitl [HS]; · iexact HS
    iexists W; iexact HW
  iintro %u ⟨HS, %W', HW'⟩
  isplitl [HS]; · iexact HS
  iexists W'
  isplitr
  · ipureintro; exact fun _ _ => Or.inl trivial
  · iexact HW'

theorem body_obligation (c : Dev nD) : BodyObligation (dats (F := F) m 0 c) (defs₀ (F := F)) Variants.none () Set.univ := fun t => by
  have : IsEmpty (Fin cfg0.W) := inferInstanceAs (IsEmpty (Fin 0))
  rw [Finset.univ_eq_empty, bigSep_empty, bigSep_empty, defs₀_row]
  have h := sound_body m c t
  refine triple_restated h rfl ?_ fun _ => ?_
  · iintro ⟨HS, HO, -⟩
    isplitl [HS] <;> iassumption
  · iintro ⟨HS, HO⟩
    isplitl [HS]; · iexact HS
    isplitl [HO]; · iexact HO
    iempintro

/-- @main around the call. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What every buffer outside the call's scratch holds at the end. -/
abbrev final (c : Dev nD) (b : Ref sig .tc) : Buf (Elt F) ((c : Thread nD τ).loc b) :=
  StableHlo.after (List.flatten [hostOps1])
    (Pipeline.withArrays (cfg0.spec) c (Pipeline.withR (V0 m c) R0 c (G m c)) fun w => (dats m 0 c).arrAt w cfg0.N) (Proc.devRef .tc b)

set_option backward.isDefEq.respectTransparency.types false in
/-- The program runs to its end, with every buffer at its final contents and every semaphore at zero. -/
theorem run_main : θ_run defs (onTc (τ := τ) (main (F := F))) (s₀ m ρ) (fun r =>
    (∀ c : Dev nD, ∀ b ∈ Pipeline.restRefs sig (cfg0.spec), r.2.mem ((c.tc : Thread nD τ).loc b) = final m c b) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m) (hA := fun _ w => w.elim0)
    (hin := fun c => .rfl) (hout := fun c => .rfl)
    (Q' := _) (hQ' := fun r h => ⟨fun c => (h.1 c).2, h.2⟩)

end Cert.KernelIdeal.Hand
-- ==== Proof.KernelIdeal.Frame.lean ====
module

public import proofs.«01_k».proof.Proof.KernelIdeal.Run

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A buffer that neither the reshape after the call nor the kernel writes ends as the kernel found it. -/
theorem final_of_kept (c : Dev nD) (b : Ref sig .tc) (hb : b ≠ main_v3) (hr : b ∉ R0) : final m c b = V m c b := by
  unfold final
  rw [StableHlo.after_of_forall_not_mem (b := Proc.devRef .tc b) _ _ (by
      intro op hop
      simp only [hostOps1, List.flatten_cons, List.flatten_nil, List.append_nil, List.mem_cons, List.mem_nil_iff, or_false] at hop
      subst hop
      rw [StableHlo.reshape_writes, Finset.mem_singleton]
      exact StableHlo.devRef_ne_of_ne hb),
    Pipeline.withArrays_of_ne _ c _ _ b (fun w => w.elim0), Pipeline.withR_of_not_mem _ _ _ _ _ hr]

/-- The input rows end as launched. -/
theorem final_arg0 (c : Dev nD) : final m c main_arg0 = m ((c : Thread nD τ).loc main_arg0) :=
  (final_of_kept m c main_arg0 (by decide) (by decide)).trans (V_main_arg0 m c)

/-- The table ends as launched. -/
theorem final_arg1 (c : Dev nD) : final m c main_arg1 = m ((c : Thread nD τ).loc main_arg1) :=
  (final_of_kept m c main_arg1 (by decide) (by decide)).trans (V_main_arg1 m c)

/-- The program runs to its end, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
      ⟨(h.1 c main_arg0 (Pipeline.mem_restRefs_of main_arg0 (by decide) (by decide))).trans (final_arg0 m c),
        (h.1 c main_arg1 (Pipeline.mem_restRefs_of main_arg1 (by decide) (by decide))).trans (final_arg1 m c)⟩, h.2⟩) (run_main m ρ)

end Cert.KernelIdeal.Hand
-- ==== Proof.KernelIdeal.Result.lean ====
module

public import proofs.«01_k».proof.Proof.KernelIdeal.Frame

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The table entry that result element `(b, s, d)` takes: row `4 s`, column `d`. -/
def tableAt (i : S4x2048x1024.Idx) : S1x8192x1024.Idx := fun a => match a with
  | ⟨0, _⟩ => ⟨0, Nat.one_pos⟩
  | ⟨1, _⟩ => ⟨4 * (i 1).val, by have h : (i 1).val < 2048 := (i 1).2; show 4 * (i 1).val < 8192; omega⟩
  | ⟨2, _⟩ => ⟨(i 2).val, (i 2).2⟩

/-- The row of the flattened rows where result element `(b, s, d)` lies: row `2048 b + s`, column `d`. -/
def rowAt (i : S4x2048x1024.Idx) : S8192x1024.Idx := fun a => match a with
  | ⟨0, _⟩ => ⟨2048 * (i 0).val + (i 1).val, by
      have h0 : (i 0).val < 4 := (i 0).2
      have h1 : (i 1).val < 2048 := (i 1).2
      show 2048 * (i 0).val + (i 1).val < 8192; omega⟩
  | ⟨1, _⟩ => ⟨(i 2).val, (i 2).2⟩

/-- The result: every element of `x` plus its table entry. -/
def sums (x : S4x2048x1024.Idx → Elt F .f32) (pe : S1x8192x1024.Idx → Elt F .f32) : S4x2048x1024.Idx → Elt F .f32 :=
  addf (φ := .f32) x fun i => pe (tableAt i)

/-- The rows the kernel finds are `x`, flattened. -/
theorem rowsIn_eq (c : Dev nD) : rowsIn m c = shapeCast S8192x1024 (m ((c : Thread nD τ).loc main_arg0)) shapeCasts_S4x2048x1024_S8192x1024 := by
  unfold rowsIn V V0
  simp only [hostOps0, List.flatten_cons, List.flatten_nil, List.append_nil]
  after_results
  rfl

/-- The padded table the kernel finds is `pe`, four of its rows to a row. -/
theorem padded_eq (c : Dev nD) : V m c main_v0 = shapeCast S2048x4096 (m ((c : Thread nD τ).loc main_arg1)) shapeCasts_S1x8192x1024_S2048x4096 := by
  unfold V V0
  simp only [hostOps0, List.flatten_cons, List.flatten_nil, List.append_nil]
  after_results
  rfl

/-- The result is the result rows, cut back to the shape of `x`. -/
theorem final_result (c : Dev nD) : final m c main_v3 = shapeCast S4x2048x1024 (G m c main_v2) shapeCasts_S8192x1024_S4x2048x1024 := by
  unfold final
  simp only [hostOps1, List.flatten_cons, List.flatten_nil, List.append_nil]
  after_results
  rw [Pipeline.withArrays_of_ne _ c _ _ main_v2 (fun w => w.elim0), Pipeline.withR_of_mem _ _ _ _ _ (by decide)]
  rfl

/-- Result element `(b, s, d)` lies in row `2048 b + s`. -/
theorem rowAt_eq (h : S8192x1024.ShapeCasts S4x2048x1024) (i : S4x2048x1024.Idx) : Shape.reshapeEquiv h i = rowAt i := by
  refine Shape.reshapeEquiv_eq_of_rowMajor h ?_
  rw [Shape.rowMajor_val_two, Shape.rowMajor_val_three]
  show (2048 * (i 0).val + (i 1).val) * 1024 + (i 2).val = ((i 0).val * 2048 + (i 1).val) * 1024 + (i 2).val
  omega

/-- And there the flattened rows hold element `(b, s, d)` of `x`. -/
theorem rowAt_back (h : S4x2048x1024.ShapeCasts S8192x1024) (i : S4x2048x1024.Idx) : Shape.reshapeEquiv h (rowAt i) = i := by
  rw [← rowAt_eq h.symm i, Shape.reshapeEquiv_reshapeEquiv, Shape.reshapeEquiv_self]

/-- And the part of the padded table that row takes holds entry `(0, 4 s, d)` of `pe`. -/
theorem tableAt_eq (h : S1x8192x1024.ShapeCasts S2048x4096) (i : S4x2048x1024.Idx) :
    Shape.reshapeEquiv h ((Rect.unit (s := S2048x4096) ![0, 0] S2048x1024.size inb_S2048x4096_S2048x1024_0_0).emb (tabIdx (rowAt i))) = tableAt i := by
  refine Shape.reshapeEquiv_eq_of_rowMajor h ?_
  rw [Shape.rowMajor_val_two, Shape.rowMajor_val_three]
  have h1 : (i 1).val < 2048 := (i 1).2
  have h2 : (i 2).val < 1024 := (i 2).2
  show (0 * 8192 + 4 * (i 1).val) * 1024 + (i 2).val
    = (0 + 1 * ((2048 * (i 0).val + (i 1).val) % 2048)) * 4096 + (0 + 1 * ((i 2).val % 1024))
  omega

/-- The result is every element of `x` plus its table entry. -/
theorem final_value (c : Dev nD) :
    final m c main_v3 = sums (m ((c : Thread nD τ).loc main_arg0)) (m ((c : Thread nD τ).loc main_arg1)) := by
  rw [final_result, G_result, rowsIn_eq]
  funext i
  have hx : shapeCast S8192x1024 (m ((c : Thread nD τ).loc main_arg0)) shapeCasts_S4x2048x1024_S8192x1024 (rowAt i) = m ((c : Thread nD τ).loc main_arg0) i :=
    congrArg (m ((c : Thread nD τ).loc main_arg0)) (rowAt_back shapeCasts_S4x2048x1024_S8192x1024 i)
  have ht : tableIn m c (tabIdx (rowAt i)) = m ((c : Thread nD τ).loc main_arg1) (tableAt i) := by
    show V m c main_v0 ((Rect.unit (s := S2048x4096) ![0, 0] S2048x1024.size inb_S2048x4096_S2048x1024_0_0).emb (tabIdx (rowAt i))) = _
    rw [padded_eq]
    exact congrArg (m ((c : Thread nD τ).loc main_arg1)) (tableAt_eq shapeCasts_S1x8192x1024_S2048x4096 i)
  show total _ (tableIn m c) (Shape.reshapeEquiv shapeCasts_S8192x1024_S4x2048x1024 i) = _
  rw [rowAt_eq]
  show FloatOps.addf (φ := .f32) _ (tableIn m c (tabIdx (rowAt i))) = FloatOps.addf (φ := .f32) _ _
  rw [hx, ht]

/-- The program runs to its end with its result every element of `x` plus its table entry, and its arguments unchanged. -/
theorem value : θ_run defs (onTc (τ := τ) (main (F := F))) ⟨m, fun _ => 0, ρ⟩ (fun r => ∀ c : Dev nD,
      r.2.mem ((c.tc : Thread nD τ).loc main_v3) = sums (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h.1 c main_v3 (Pipeline.mem_restRefs_of main_v3 (by decide) (by decide))).trans (final_value m c),
        (h.1 c main_arg0 (Pipeline.mem_restRefs_of main_arg0 (by decide) (by decide))).trans (final_arg0 m c),
        (h.1 c main_arg1 (Pipeline.mem_restRefs_of main_arg1 (by decide) (by decide))).trans (final_arg1 m c)⟩) (run_main m ρ)

end Cert.KernelIdeal.Hand
-- ==== Proof.Reference.lean ====
module

public import proofs.«01_k».proof.Proof.Gen.ReferenceIdeal.Run
public import proofs.«01_k».proof.Proof.KernelIdeal.Result
public import Idealize.ShloMosaic.Lib.ReduceAll
public import Idealize.ShloMosaic.Lib.Affine

@[expose] public section

noncomputable section

namespace Cert.ReferenceIdeal.Hand

open Idealize.ShloMosaic Idealize.ShloMosaic.TcCoe Idealize.SL.Sem
open Cert.ReferenceIdeal Cert.ReferenceIdeal.Gen
open Cert.KernelIdeal.Hand (tableAt sums)

variable {F : FTy → Type} [FloatOps F]

/-! ## The row numbers -/

/-- The row numbers the reference asks for: `0 + 4 s`. -/
def rows : IVec S2048 32 :=
  addi (broadcastInDim S2048 ![] bcast_S_S2048 (constantI S_ 32 0#32)) (muli (broadcastInDim S2048 ![] bcast_S_S2048 (constantI S_ 32 4#32)) (iotaInDim S2048 32 0))

/-- The row numbers as the take reads them: a negative one would count from the end. -/
def starts : IVec S2048x1 32 :=
  broadcastInDim S2048x1 ![0] bcast_S2048_S2048x1_0 (select (cmpi .slt rows (broadcastInDim S2048 ![] bcast_S_S2048 (constantI S_ 32 0#32)))
    (addi rows (broadcastInDim S2048 ![] bcast_S_S2048 (constantI S_ 32 8192#32))) rows)

/-- Whether each row number lies inside the table. -/
def inside : IVec S2048x1 1 :=
  andi (cmpi .sge starts (broadcastInDim S2048x1 ![] bcast_S_S2048x1 (constantI S_ 32 0#32)))
    (cmpi .sle starts (broadcastInDim S2048x1 ![0, 1] bcast_S1x1_S2048x1_0_1 (broadcastInDim S1x1 ![1] bcast_S1_S1x1_1 (constantI S1 32 8191#32))))

/-- The rows taken: the table's rows at the row numbers, not-a-number where a row number lies outside the table. -/
def taken (pe : S1x8192x1024.Idx → Elt F .f32) : S1x2048x1024.Idx → Elt F .f32 :=
  select (broadcastInDim S1x2048x1024 ![1] bcast_S2048_S1x2048x1024_1 (Host.reduce IntOp.andi inside (constantI S_ 1 1#1) reducesTo_S2048x1_S2048_d1 h_S_))
    (Host.gather gather_S1x8192x1024_S2048x1_S1x2048x1024_02_1_n_n_1_1_111024 pe starts)
    (broadcastInDim S1x2048x1024 ![] bcast_S_S1x2048x1024 (constant S_ .f32 0x7FC00000#32))

/-- A word below 8192, read signed, is its number. -/
theorem toInt_small {n : ℕ} (hn : n < 8192) : (BitVec.ofNat 32 n).toInt = n := by
  have h : (BitVec.ofNat 32 n).toNat = n := by rw [BitVec.toNat_ofNat]; exact Nat.mod_eq_of_lt (by omega)
  rw [BitVec.toInt_eq_toNat_of_lt (by omega), h]

/-- Row number `s` is `4 s`. -/
theorem rows_at (k : S2048.Idx) : rows k = BitVec.ofNat 32 (4 * (k 0).val) := by
  show 0#32 + 4#32 * BitVec.ofNat 32 (k 0).val = _
  rw [BitVec.zero_add, BitVec.ofNat_mul]

/-- None is negative, so the take reads it as it is. -/
theorem wrapped_at (k : S2048.Idx) :
    select (cmpi .slt rows (broadcastInDim S2048 ![] bcast_S_S2048 (constantI S_ 32 0#32))) (addi rows (broadcastInDim S2048 ![] bcast_S_S2048 (constantI S_ 32 8192#32))) rows k
      = BitVec.ofNat 32 (4 * (k 0).val) := by
  have hk : (k 0).val < 2048 := (k 0).2
  show (if IntOp.cmpi .slt (rows k) 0#32 = 1#1 then _ else rows k) = _
  rw [rows_at, if_neg]
  rw [IntOp.cmpi_slt, toInt_small (n := 4 * (k 0).val) (by omega)]
  show ¬ ((4 * (k 0).val : ℕ) : ℤ) < 0
  omega

/-- The row number at entry `s` of the column of row numbers. -/
theorem starts_at (j : S2048x1.Idx) : starts j = BitVec.ofNat 32 (4 * (j 0).val) := wrapped_at _

/-- Every row number lies inside the table. -/
theorem inside_at (j : S2048x1.Idx) : inside j = 1#1 := by
  have hj : (j 0).val < 2048 := (j 0).2
  show IntOp.andi (IntOp.cmpi .sge (starts j) 0#32) (IntOp.cmpi .sle (starts j) 8191#32) = 1#1
  rw [IntOp.andi_eq_one, IntOp.cmpi_sge, IntOp.cmpi_sle, starts_at, toInt_small (n := 4 * (j 0).val) (by omega)]
  constructor
  · show (0 : ℤ) ≤ ((4 * (j 0).val : ℕ) : ℤ)
    omega
  · show ((4 * (j 0).val : ℕ) : ℤ) ≤ 8191
    omega

/-! ## The rows taken -/

/-- The take at `(0, s, d)` reads the table at the row that entry `s` of the row numbers names, column `d`. -/
theorem gather_at (pe : S1x8192x1024.Idx → Elt F .f32) (idx : IVec S2048x1 32) (j : S1x2048x1024.Idx) (i : S1x8192x1024.Idx) (k : S2048x1.Idx)
    (hk : (k 0).val = (j 1).val) (h1 : (i 1).val = min (idx k).toInt.toNat 8191) (h2 : (i 2).val = (j 2).val) :
    Host.gather gather_S1x8192x1024_S2048x1_S1x2048x1024_02_1_n_n_1_1_111024 pe idx j = pe i := by
  unfold Host.gather
  refine congrArg pe (funext fun a => Fin.ext ?_)
  match a with
  | ⟨0, _⟩ =>
    have hi : (i 0).val < 1 := (i 0).2
    have hl := (gather_S1x8192x1024_S2048x1_S1x2048x1024_02_1_n_n_1_1_111024.operandIdx j idx 0).2
    have hl' : (gather_S1x8192x1024_S2048x1_S1x2048x1024_02_1_n_n_1_1_111024.operandIdx j idx 0).val < 1 := hl
    show (gather_S1x8192x1024_S2048x1_S1x2048x1024_02_1_n_n_1_1_111024.operandIdx j idx 0).val = (i 0).val
    omega
  | ⟨1, _⟩ =>
    show gather_S1x8192x1024_S2048x1_S1x2048x1024_02_1_n_n_1_1_111024.start j idx 1
      + gather_S1x8192x1024_S2048x1_S1x2048x1024_02_1_n_n_1_1_111024.batchCoord j 1
      + gather_S1x8192x1024_S2048x1_S1x2048x1024_02_1_n_n_1_1_111024.offCoord j 1 = (i 1).val
    rw [GatherDims.batchCoord_eq_zero _ _ _ List.not_mem_nil,
      GatherDims.offCoord_eq_zero _ _ _ (fun h => ((GatherDims.mem_sKept _ _).mp h).1 (List.mem_singleton.mpr rfl)), h1]
    unfold GatherDims.start
    rw [dif_pos (show (1 : Fin 3) ∈ gather_S1x8192x1024_S2048x1_S1x2048x1024_02_1_n_n_1_1_111024.startIndexMap from List.mem_singleton.mpr rfl)]
    have hs (q) : gather_S1x8192x1024_S2048x1_S1x2048x1024_02_1_n_n_1_1_111024.siIdx j q = k := by
      funext b
      refine Fin.ext ?_
      match b with
      | ⟨0, _⟩ => exact hk.symm
      | ⟨1, _⟩ =>
        have hk1 : (k 1).val < 1 := (k 1).2
        have hq : (gather_S1x8192x1024_S2048x1_S1x2048x1024_02_1_n_n_1_1_111024.siIdx j q 1).val < 1 := (gather_S1x8192x1024_S2048x1_S1x2048x1024_02_1_n_n_1_1_111024.siIdx j q 1).2
        show (gather_S1x8192x1024_S2048x1_S1x2048x1024_02_1_n_n_1_1_111024.siIdx j q 1).val = (k 1).val
        omega
    rw [hs]
    rfl
  | ⟨2, _⟩ =>
    show gather_S1x8192x1024_S2048x1_S1x2048x1024_02_1_n_n_1_1_111024.start j idx 2
      + gather_S1x8192x1024_S2048x1_S1x2048x1024_02_1_n_n_1_1_111024.batchCoord j 2
      + gather_S1x8192x1024_S2048x1_S1x2048x1024_02_1_n_n_1_1_111024.offCoord j 2 = (i 2).val
    rw [GatherDims.batchCoord_eq_zero _ _ _ List.not_mem_nil, h2]
    unfold GatherDims.start
    rw [dif_neg (by decide)]
    show 0 + 0 + (j 2).val = (j 2).val
    omega

/-- The rows taken are every fourth row of the table. -/
theorem taken_at (pe : S1x8192x1024.Idx → Elt F .f32) (i : S4x2048x1024.Idx) (j : S1x2048x1024.Idx) (h1 : (j 1).val = (i 1).val) (h2 : (j 2).val = (i 2).val) :
    taken pe j = pe (tableAt i) := by
  have hi : (i 1).val < 2048 := (i 1).2
  have hj : (j 1).val < 2048 := (j 1).2
  have hc (n) : Host.reduce IntOp.andi inside (constantI S_ 1 1#1) reducesTo_S2048x1_S2048_d1 h_S_ n = 1#1 :=
    Host.reduce_andi_one _ _ _ _ _ rfl inside_at
  have hsel : taken pe j = Host.gather gather_S1x8192x1024_S2048x1_S1x2048x1024_02_1_n_n_1_1_111024 pe starts j := by
    unfold taken select broadcastInDim
    rw [hc]
    rfl
  rw [hsel]
  refine gather_at pe starts j (tableAt i) (fun a => match a with | ⟨0, _⟩ => ⟨(j 1).val, hj⟩ | ⟨1, _⟩ => ⟨0, Nat.one_pos⟩) rfl ?_ h2.symm
  rw [starts_at]
  show 4 * (i 1).val = min (BitVec.ofNat 32 (4 * (j 1).val)).toInt.toNat 8191
  rw [toInt_small (by omega), h1]
  omega

/-- What the reference computes: every element of `x` plus its table entry. -/
theorem sums_eq (x : S4x2048x1024.Idx → Elt F .f32) (pe : S1x8192x1024.Idx → Elt F .f32) :
    addf (φ := .f32) x (broadcastInDim S4x2048x1024 ![0, 1, 2] bcast_S1x2048x1024_S4x2048x1024_0_1_2 (taken pe)) = sums x pe := by
  refine congrArg (addf (φ := .f32) x) (funext fun i => ?_)
  exact taken_at pe i _ rfl rfl

variable (m : (ℓ : Loc nD τ sig) → Buf (Elt F) ℓ) (ρ : Dev nD → PrngReg)

/-- The reference runs to its end with its result every element of `x` plus its table entry, and its arguments unchanged. -/
theorem value : θ_run defs (onTc (τ := τ) (main (F := F))) ⟨m, fun _ => 0, ρ⟩ fun r => ∀ c : Dev nD,
      r.2.mem ((c.tc : Thread nD τ).loc main_v7) = sums (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (sums_eq _ _), (h c).2⟩) (Value.run m ρ)

/-- The reference has no semaphores. -/
theorem no_semaphore (sm : SemLoc sig) : False := by revert sm; decide

/-- The reference runs to its end, its arguments unchanged and every semaphore at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun g => (no_semaphore g.2).elim⟩) (value m ρ)

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Result
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel's program terminates without fault over words as well: it leaves both arguments as it
    found them and every semaphore counter at zero. The program is the ideal one, operation for
    operation, and the ideal program's frame holds for any reading of the floats. -/
theorem kernel_frame (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  Cert.KernelIdeal.Hand.frame (F := Bits) m ρ

/-- All five claims: the three frames, the ideal program's agreement with the kernel, and the
    equation. Kernel and reference both end with `sums x pe` for the same arguments `x` and `pe`. -/
theorem claim : Cert.Claim := ⟨Cert.Kernel.Gen.facts, Cert.KernelIdeal.Gen.facts, Cert.ReferenceIdeal.Gen.facts,
  fun m ρ _ => kernel_frame m ρ,
  fun m ρ _ => Cert.KernelIdeal.Hand.frame m ρ,
  fun m ρ _ => Cert.ReferenceIdeal.Hand.frame m ρ,
  trivial,
  fun m ρ m' ρ' _ h =>
    ⟨fun c => Cert.KernelIdeal.Hand.sums (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Hand.value m ρ,
      (θ_run _ _ _).mono (fun _ hr c => ⟨(hr c).1.trans (congrArg₂ Cert.KernelIdeal.Hand.sums (h c).1 (h c).2), (hr c).2⟩)
        (Cert.ReferenceIdeal.Hand.value m' ρ')⟩⟩

end Cert.Proof

end
